-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 4096]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S4x1024x1024 : Shape := ⟨3, ![4, 1024, 1024]⟩
abbrev S3x4x1024x1024 : Shape := ⟨4, ![3, 4, 1024, 1024]⟩
abbrev S_ : Shape := ⟨0, ![]⟩
abbrev S3x4 : Shape := ⟨2, ![3, 4]⟩
abbrev S1x4096x1024 : Shape := ⟨3, ![1, 4096, 1024]⟩
abbrev S1024x1024 : Shape := ⟨2, ![1024, 1024]⟩
abbrev S1x1024x1024 : Shape := ⟨3, ![1, 1024, 1024]⟩
abbrev S1x1 : Shape := ⟨2, ![1, 1]⟩
abbrev S1x1x1024x1024 : Shape := ⟨4, ![1, 1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .bf16⟩
  | .local _ .vmem, ⟨0, _⟩ => ⟨S4096x1024, .bf16⟩
  | .local _ .vmem, ⟨1, _⟩ => ⟨S4096x1024, .f32⟩
  | .local _ .vmem, ⟨2, _⟩ => ⟨S4x1024x1024, .bf16⟩
  | .local _ .vmem, ⟨3, _⟩ => ⟨S3x4x1024x1024, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k0_off1 (d0 : Dev nD) (c1_i32_25 : BitVec 32) : Fin 3 → Nat :=
  let c0_i32_32 : BitVec 32 := 0#32
  let c0_i32_33 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v44 : BitVec 32 := Scalar.subi v8 c1_i32_25
  let c4_i32_26 : BitVec 32 := 4#32
  let c0_i32_27 : BitVec 32 := 0#32
  let v45 : BitVec 1 := Scalar.cmpi .eq c4_i32_26 c0_i32_27
  let c1_i32_28 : BitVec 32 := 1#32
  let v46 : BitVec 32 := Scalar.select v45 c1_i32_28 c4_i32_26
  let v47 : BitVec 32 := Scalar.remsi v44 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let c1024_i32 : BitVec 32 := 1024#32
  let v55 : BitVec 32 := Scalar.muli v54 c1024_i32
  ![0, 0, v55.toNat]
def k0_dev3 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v80 : BitVec 32 := Scalar.muli v2 c16_i32_57
  let v81 : BitVec 32 := Scalar.addi c0_i32_58 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v82 : BitVec 32 := Scalar.muli v5 c4_i32_59
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_60 : BitVec 32 := 1#32
  let v84 : BitVec 32 := Scalar.muli v30 c1_i32_60
  let v85 : BitVec 32 := Scalar.addi v83 v84
  v85.toNat
def k0_dev4 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v94 : BitVec 32 := Scalar.muli v2 c16_i32_72
  let v95 : BitVec 32 := Scalar.addi c0_i32_73 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v96 : BitVec 32 := Scalar.muli v5 c4_i32_74
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_75 : BitVec 32 := 1#32
  let v98 : BitVec 32 := Scalar.muli v30 c1_i32_75
  let v99 : BitVec 32 := Scalar.addi v97 v98
  v99.toNat
def k0_dev5 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v108 : BitVec 32 := Scalar.muli v2 c16_i32_87
  let v109 : BitVec 32 := Scalar.addi c0_i32_88 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v110 : BitVec 32 := Scalar.muli v5 c4_i32_89
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_90 : BitVec 32 := 1#32
  let v112 : BitVec 32 := Scalar.muli v30 c1_i32_90
  let v113 : BitVec 32 := Scalar.addi v111 v112
  v113.toNat
def k0_dev6 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v122 : BitVec 32 := Scalar.muli v2 c16_i32_101
  let v123 : BitVec 32 := Scalar.addi c0_i32_102 v122
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_103 : BitVec 32 := 4#32
  let v124 : BitVec 32 := Scalar.muli v5 c4_i32_103
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_104 : BitVec 32 := 1#32
  let v126 : BitVec 32 := Scalar.muli v30 c1_i32_104
  let v127 : BitVec 32 := Scalar.addi v125 v126
  v127.toNat
def k0_dev7 (d0 : Dev nD) : Nat :=
  let c0_i32_165 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_164 : BitVec 32 := 16#32
  let v178 : BitVec 32 := Scalar.muli v2 c16_i32_164
  let v179 : BitVec 32 := Scalar.addi c0_i32_165 v178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_166 : BitVec 32 := 4#32
  let v180 : BitVec 32 := Scalar.muli v5 c4_i32_166
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_167 : BitVec 32 := 1#32
  let v182 : BitVec 32 := Scalar.muli v30 c1_i32_167
  let v183 : BitVec 32 := Scalar.addi v181 v182
  v183.toNat
def k0_dev8 (d0 : Dev nD) : Nat :=
  let c0_i32_216 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_215 : BitVec 32 := 16#32
  let v218 : BitVec 32 := Scalar.muli v2 c16_i32_215
  let v219 : BitVec 32 := Scalar.addi c0_i32_216 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v220 : BitVec 32 := Scalar.muli v5 c4_i32_217
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_218 : BitVec 32 := 1#32
  let v222 : BitVec 32 := Scalar.muli v30 c1_i32_218
  let v223 : BitVec 32 := Scalar.addi v221 v222
  v223.toNat
def k0_dev9 (d0 : Dev nD) : Nat :=
  let c0_i32_267 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_266 : BitVec 32 := 16#32
  let v258 : BitVec 32 := Scalar.muli v2 c16_i32_266
  let v259 : BitVec 32 := Scalar.addi c0_i32_267 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_268 : BitVec 32 := 4#32
  let v260 : BitVec 32 := Scalar.muli v5 c4_i32_268
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_269 : BitVec 32 := 1#32
  let v262 : BitVec 32 := Scalar.muli v30 c1_i32_269
  let v263 : BitVec 32 := Scalar.addi v261 v262
  v263.toNat
def k0_dev10 (d0 : Dev nD) : Nat :=
  let c0_i32_318 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_317 : BitVec 32 := 16#32
  let v298 : BitVec 32 := Scalar.muli v2 c16_i32_317
  let v299 : BitVec 32 := Scalar.addi c0_i32_318 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_319 : BitVec 32 := 4#32
  let v300 : BitVec 32 := Scalar.muli v5 c4_i32_319
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_320 : BitVec 32 := 1#32
  let v302 : BitVec 32 := Scalar.muli v30 c1_i32_320
  let v303 : BitVec 32 := Scalar.addi v301 v302
  v303.toNat
def k0_off2 (d0 : Dev nD) (c1_i32_325 : BitVec 32) : Fin 3 → Nat :=
  let c0_i32_334 : BitVec 32 := 0#32
  let c0_i32_335 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v312 : BitVec 32 := Scalar.subi v8 c1_i32_325
  let c2_i32_326 : BitVec 32 := 2#32
  let v313 : BitVec 32 := Scalar.subi v312 c2_i32_326
  let c4_i32_327 : BitVec 32 := 4#32
  let c0_i32_328 : BitVec 32 := 0#32
  let v314 : BitVec 1 := Scalar.cmpi .eq c4_i32_327 c0_i32_328
  let c1_i32_329 : BitVec 32 := 1#32
  let v315 : BitVec 32 := Scalar.select v314 c1_i32_329 c4_i32_327
  let v316 : BitVec 32 := Scalar.remsi v313 v315
  let c0_i32_331 : BitVec 32 := 0#32
  let v318 : BitVec 1 := Scalar.cmpi .slt v316 c0_i32_331
  let c0_i32_332 : BitVec 32 := 0#32
  let v319 : BitVec 1 := Scalar.cmpi .slt v315 c0_i32_332
  let v320 : BitVec 1 := Scalar.xori v318 v319
  let c0_i32_330 : BitVec 32 := 0#32
  let v317 : BitVec 1 := Scalar.cmpi .ne v316 c0_i32_330
  let v321 : BitVec 1 := Scalar.andi v320 v317
  let v322 : BitVec 32 := Scalar.addi v316 v315
  let v323 : BitVec 32 := Scalar.select v321 v322 v316
  let c1024_i32_333 : BitVec 32 := 1024#32
  let v324 : BitVec 32 := Scalar.muli v323 c1024_i32_333
  ![0, 0, v324.toNat]
def k0_dev11 (d0 : Dev nD) : Nat :=
  let c0_i32_382 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_381 : BitVec 32 := 16#32
  let v355 : BitVec 32 := Scalar.muli v2 c16_i32_381
  let v356 : BitVec 32 := Scalar.addi c0_i32_382 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_383 : BitVec 32 := 4#32
  let v357 : BitVec 32 := Scalar.muli v5 c4_i32_383
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_384 : BitVec 32 := 1#32
  let v359 : BitVec 32 := Scalar.muli v30 c1_i32_384
  let v360 : BitVec 32 := Scalar.addi v358 v359
  v360.toNat
def k0_dev12 (d0 : Dev nD) : Nat :=
  let c0_i32_433 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_432 : BitVec 32 := 16#32
  let v395 : BitVec 32 := Scalar.muli v2 c16_i32_432
  let v396 : BitVec 32 := Scalar.addi c0_i32_433 v395
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_434 : BitVec 32 := 4#32
  let v397 : BitVec 32 := Scalar.muli v5 c4_i32_434
  let v398 : BitVec 32 := Scalar.addi v396 v397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_435 : BitVec 32 := 1#32
  let v399 : BitVec 32 := Scalar.muli v30 c1_i32_435
  let v400 : BitVec 32 := Scalar.addi v398 v399
  v400.toNat
def k0_dev13 (d0 : Dev nD) : Nat :=
  let c0_i32_484 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_483 : BitVec 32 := 16#32
  let v435 : BitVec 32 := Scalar.muli v2 c16_i32_483
  let v436 : BitVec 32 := Scalar.addi c0_i32_484 v435
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_485 : BitVec 32 := 4#32
  let v437 : BitVec 32 := Scalar.muli v5 c4_i32_485
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_486 : BitVec 32 := 1#32
  let v439 : BitVec 32 := Scalar.muli v30 c1_i32_486
  let v440 : BitVec 32 := Scalar.addi v438 v439
  v440.toNat
def k0_dev14 (d0 : Dev nD) : Nat :=
  let c0_i32_535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_534 : BitVec 32 := 16#32
  let v475 : BitVec 32 := Scalar.muli v2 c16_i32_534
  let v476 : BitVec 32 := Scalar.addi c0_i32_535 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_536 : BitVec 32 := 4#32
  let v477 : BitVec 32 := Scalar.muli v5 c4_i32_536
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_537 : BitVec 32 := 1#32
  let v479 : BitVec 32 := Scalar.muli v30 c1_i32_537
  let v480 : BitVec 32 := Scalar.addi v478 v479
  v480.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | .hbm, ⟨3, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Tiles.lean ====
/-
  A buffer cut into the pieces of a family of rectangles that tile it: the family's contents glued into one, and the
  buffer's ownership exchanged for the pieces' when their contents do not matter.
-/
module

public import Idealize.ShloMosaic.Lib.Memref
public import Idealize.ShloMosaic.Lib.Tactic

@[expose] public section

noncomputable section

namespace Cert.Tiles

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {T : Type} {sh : Shape} (r : T → Rect sh)

/-- The rectangles tile the shape: each index lies in one of them, in only one of them. -/
structure Tiling : Prop where
  cover : ∀ i : sh.Idx, ∃ t j, (r t).emb j = i
  apart : ∀ t t' j j', (r t).emb j = (r t').emb j' → t = t'
  unit : ∀ t a, (r t).stride a = 1

variable {r}

namespace Tiling

variable (h : Tiling r)
include h

theorem disjoint (t t' : T) (hne : t ≠ t') : Disjoint (r t).set (r t').set :=
  Finset.disjoint_left.mpr fun i hi hi' => by
    obtain ⟨j, hj⟩ := (r t).exists_idx_of_mem hi
    obtain ⟨j', hj'⟩ := (r t').exists_idx_of_mem hi'
    exact hne (h.apart t t' j j' (hj.trans hj'.symm))

theorem biUnion_set [Fintype T] : (Finset.univ : Finset T).biUnion (fun t => (r t).set) = Finset.univ :=
  Finset.eq_univ_of_forall fun i => by
    obtain ⟨t, j, rfl⟩ := h.cover i
    exact Finset.mem_biUnion.mpr ⟨t, Finset.mem_univ t, (r t).idx_mem j⟩

end Tiling

/-- One function on the shape from one on each piece. -/
def glue {α : Type} (h : Tiling r) (Y : ∀ t, (r t).shape.Idx → α) : sh.Idx → α := fun i =>
  Y (h.cover i).choose (h.cover i).choose_spec.choose

theorem glue_emb {α : Type} (h : Tiling r) (Y : ∀ t, (r t).shape.Idx → α) (t : T) (j : (r t).shape.Idx) :
    glue h Y ((r t).emb j) = Y t j := by
  have key : ∀ (t' : T) (j' : (r t').shape.Idx), (r t').emb j' = (r t).emb j → Y t' j' = Y t j := fun t' j' e => by
    have := h.apart t' t j' j e
    subst this
    rw [(r t').emb.injective e]
  exact key _ _ (h.cover ((r t).emb j)).choose_spec.choose_spec

section Own

variable {nD : Nat} {τ : Topo} {sig : RefSig} {Ix : Type} [DecidableEq Ix] {Val : EltTy → Type} {Name : Type} [DecidableEq Name]
variable {U : Type} [URA U] {Lvl : Type} [Fintype T] [DecidableEq T]

local notation "𝕄" => MT nD τ sig Ix Val Name U Lvl

variable (c : Thread nD τ) {sp : Space} {e : EltTy} (m : Memref sig c.2.kind sp sh e) (h : Tiling r)
include h

/-- The pieces, whatever they hold, of a buffer whatever it holds; -/
theorem split_any (g : m.view.ty.Contents Val) :
    (m.view.loc c ↦[m.view.set]{fullShare} g : sProp 𝕄)
      ⊢ bigSep Finset.univ fun t => iprop(∃ f, m.view.loc c ↦[(m.view.slice (r t)).set]{fullShare} f) := by
  rw [pointsTo_rects c m fullShare r h.unit h.disjoint h.biUnion_set g]
  refine bigSep_mono fun t _ => ?_
  rw [owns_slice_read]
  show (m.view.loc c ↦[(m.view.slice (r t)).set]{fullShare} g : sProp 𝕄) ⊢ iprop(∃ f, m.view.loc c ↦[(m.view.slice (r t)).set]{fullShare} f)
  iintro H; iexists g; iexact H

/-- the buffer at the contents glued from the pieces'; -/
theorem join_glue [∀ e, Nonempty (Val e)] (Y : ∀ t, (r t).shape.Idx → Val e) :
    (bigSep Finset.univ fun t => owns c (m.slice (r t) (h.unit t)) fullShare (Y t)) ⊢ (owns c m fullShare (glue h Y) : sProp 𝕄) := by
  have e : (bigSep Finset.univ fun t => (owns c (m.slice (r t) (h.unit t)) fullShare (Y t) : sProp 𝕄))
      = bigSep Finset.univ fun t => owns c (m.slice (r t) (h.unit t)) fullShare (fun j => glue h Y ((r t).emb j)) :=
    bigSep_congr fun t _ => by rw [show (fun j => glue h Y ((r t).emb j)) = Y t from funext fun j => glue_emb h Y t j]
  rw [e]
  exact owns_of_rects c m fullShare r h.unit h.disjoint h.biUnion_set (glue h Y)

/-- the buffer, whatever it holds, from its pieces whatever they hold. -/
theorem join_any [∀ e, Nonempty (Val e)] :
    (bigSep Finset.univ fun t => iprop(∃ f, m.view.loc c ↦[(m.view.slice (r t)).set]{fullShare} f))
      ⊢ (iprop(∃ g, m.view.loc c ↦[m.view.set]{fullShare} g) : sProp 𝕄) := by
  refine (bigSep_exists_pi Finset.univ fun t (f : m.view.ty.Contents Val) =>
    (m.view.loc c ↦[(m.view.slice (r t)).set]{fullShare} f : sProp 𝕄)).trans ?_
  iintro ⟨%F, H⟩
  ihave H' := (show (bigSep Finset.univ fun t => (m.view.loc c ↦[(m.view.slice (r t)).set]{fullShare} F t : sProp 𝕄))
      ⊢ owns c m fullShare (glue h fun t j => m.view.read Val (F t) ((r t).emb j)) from
    (Entails.of_eq (bigSep_congr fun t _ => (owns_slice_read c m fullShare (r t) (h.unit t) (F t)).symm)).trans
      (join_glue c m h fun t j => m.view.read Val (F t) ((r t).emb j))) $$ H
  unfold owns
  icases H' with ⟨%g, -, H⟩
  iexists g; iexact H

end Own

end Cert.Tiles

end
-- ==== Proof.KernelIdeal.Pieces.lean ====
/-
  The kernel body as a short program over generic pieces: one local copy, one row block prepared, one remote copy,
  one row block accumulated, the last row block stored. Each piece is stated once, at a step and a row block
  given as parameters; the printed body is the pieces in order (`body_eq`).
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Proof

open Cert.KernelIdeal Cert.KernelIdeal.Gen
open Idealize.ShloMosaic Idealize.ShloMosaic.TcCoe Idealize.SL.Sem

variable {F : FTy → Type} [FloatOps F]

/-! ## Buffers -/

/-- The argument, the result's staging buffer, the f32 chunk buffer, the four outgoing row blocks, the twelve
    incoming row blocks (step by step). -/
abbrev xM : Memref sig .tc .hbm S1x4096x4096 .f32 := Memref.whole main_arg0
abbrev oM : Memref sig .tc .vmem S4096x1024 .bf16 := Memref.whole cc0_stg0_0
abbrev fM : Memref sig .tc .vmem S4096x1024 .f32 := Memref.whole cc0_scratch0
abbrev sM : Memref sig .tc .vmem S4x1024x1024 .bf16 := Memref.whole cc0_scratch1
abbrev cM : Memref sig .tc .vmem S3x4x1024x1024 .bf16 := Memref.whole cc0_scratch2

/-! ## Rectangles -/

theorem inb_row : ∀ b : Fin 4, ∀ a, (![1024 * b.val, 0] : Fin 2 → Nat) a + S1024x1024.size a ≤ S4096x1024.size a := by decide
theorem inb_snd : ∀ b : Fin 4, ∀ a, (![b.val, 0, 0] : Fin 3 → Nat) a + S1x1024x1024.size a ≤ S4x1024x1024.size a := by decide
theorem inb_com : ∀ (s : Fin 3) (b : Fin 4), ∀ a, (![s.val, b.val, 0, 0] : Fin 4 → Nat) a + S1x1x1024x1024.size a ≤ S3x4x1024x1024.size a := by
  decide
theorem inb_sem : ∀ (s : Fin 3) (b : Fin 4), ∀ a, (![s.val, b.val] : Fin 2 → Nat) a + S1x1.size a ≤ S3x4.size a := by decide
theorem inb_chunk : ∀ q : Fin 4, ∀ a, (![0, 0, 1024 * q.val] : Fin 3 → Nat) a + S1x4096x1024.size a ≤ S1x4096x4096.size a := by decide

/-- Row block `b` of a 4096-row buffer; outgoing row block `b`; incoming row block `b` of step `s`. -/
abbrev rowR (b : Fin 4) : Rect S4096x1024 := Rect.unit (s := S4096x1024) ![1024 * b.val, 0] S1024x1024.size (inb_row b)
abbrev sndR (b : Fin 4) : Rect S4x1024x1024 := Rect.unit (s := S4x1024x1024) ![b.val, 0, 0] S1x1024x1024.size (inb_snd b)
abbrev comR (s : Fin 3) (b : Fin 4) : Rect S3x4x1024x1024 :=
  Rect.unit (s := S3x4x1024x1024) ![s.val, b.val, 0, 0] S1x1x1024x1024.size (inb_com s b)

theorem packed_row : ∀ b : Fin 4, (rowR b).PackedRows (EltTy.packing .bf16)
  | 0 => packedbf16_S4096x1024_S1024x1024_0_0 | 1 => packedbf16_S4096x1024_S1024x1024_1024_0
  | 2 => packedbf16_S4096x1024_S1024x1024_2048_0 | 3 => packedbf16_S4096x1024_S1024x1024_3072_0
theorem packed_snd : ∀ b : Fin 4, (sndR b).PackedRows (EltTy.packing .bf16)
  | 0 => packedbf16_S4x1024x1024_S1x1024x1024_0_0_0 | 1 => packedbf16_S4x1024x1024_S1x1024x1024_1_0_0
  | 2 => packedbf16_S4x1024x1024_S1x1024x1024_2_0_0 | 3 => packedbf16_S4x1024x1024_S1x1024x1024_3_0_0
theorem words_snd : ∀ b : Fin 4, (sndR b).WholeWords (EltTy.packing .bf16)
  | 0 => wordsbf16_S4x1024x1024_S1x1024x1024_0_0_0 | 1 => wordsbf16_S4x1024x1024_S1x1024x1024_1_0_0
  | 2 => wordsbf16_S4x1024x1024_S1x1024x1024_2_0_0 | 3 => wordsbf16_S4x1024x1024_S1x1024x1024_3_0_0
theorem words_com : ∀ (s : Fin 3) (b : Fin 4), (comR s b).WholeWords (EltTy.packing .bf16)
  | 0, 0 => wordsbf16_S3x4x1024x1024_S1x1x1024x1024_0_0_0_0 | 0, 1 => wordsbf16_S3x4x1024x1024_S1x1x1024x1024_0_1_0_0
  | 0, 2 => wordsbf16_S3x4x1024x1024_S1x1x1024x1024_0_2_0_0 | 0, 3 => wordsbf16_S3x4x1024x1024_S1x1x1024x1024_0_3_0_0
  | 1, 0 => wordsbf16_S3x4x1024x1024_S1x1x1024x1024_1_0_0_0 | 1, 1 => wordsbf16_S3x4x1024x1024_S1x1x1024x1024_1_1_0_0
  | 1, 2 => wordsbf16_S3x4x1024x1024_S1x1x1024x1024_1_2_0_0 | 1, 3 => wordsbf16_S3x4x1024x1024_S1x1x1024x1024_1_3_0_0
  | 2, 0 => wordsbf16_S3x4x1024x1024_S1x1x1024x1024_2_0_0_0 | 2, 1 => wordsbf16_S3x4x1024x1024_S1x1x1024x1024_2_1_0_0
  | 2, 2 => wordsbf16_S3x4x1024x1024_S1x1x1024x1024_2_2_0_0 | 2, 3 => wordsbf16_S3x4x1024x1024_S1x1x1024x1024_2_3_0_0

/-! ## Views and semaphores -/

/-- Outgoing row block `b` and incoming row block `(s, b)`, as the remote copies name them; the argument's columns
    from an offset, as the local copies name them. -/
abbrev sndV (b : Fin 4) : Memref sig .tc .vmem S1024x1024 .bf16 :=
  (sM.slice (sndR b) (fun _ => rfl)).squeeze S1024x1024 squeezes_S1x1024x1024_S1024x1024
abbrev comV (s : Fin 3) (b : Fin 4) : Memref sig .tc .vmem S1024x1024 .bf16 :=
  (cM.slice (comR s b) (fun _ => rfl)).squeeze S1024x1024 squeezes_S1x1x1024x1024_S1024x1024
abbrev srcV (off : Fin 3 → Nat) (h : ∀ a, off a + S1x4096x1024.size a ≤ S1x4096x4096.size a) : Memref sig .tc .hbm S4096x1024 .f32 :=
  (xM.slice (Rect.unit (s := S1x4096x4096) off S1x4096x1024.size h) (fun _ => rfl)).squeeze S4096x1024 squeezes_S1x4096x1024_S4096x1024

theorem sndV_exact (b : Fin 4) : (sndV b).view.WordExact :=
  (((Memref.isWhole_whole cc0_scratch1).wordExact_slice rfl _ (words_snd b)).reshape _ _)
theorem comV_exact (s : Fin 3) (b : Fin 4) : (comV s b).view.WordExact :=
  (((Memref.isWhole_whole cc0_scratch2).wordExact_slice rfl _ (words_com s b)).reshape _ _)

/-- The barrier semaphore; the local copies' semaphore; the send and receive semaphores of row block `b` at step `s`. -/
abbrev barS : Sem sig := (SemArray.scalar (sig.barrier 0 rfl) : Sems sig S_).sem
abbrev cpyS : DmaSem sig := cc0_scratch3.sem
abbrev sndS (s : Fin 3) (b : Fin 4) : DmaSem sig :=
  ((cc0_scratch4.slice (Rect.unit (s := S3x4) ![s.val, b.val] S1x1.size (inb_sem s b))).squeeze S_ squeezes_S1x1_S_).sem
abbrev rcvS (s : Fin 3) (b : Fin 4) : DmaSem sig :=
  ((cc0_scratch5.slice (Rect.unit (s := S3x4) ![s.val, b.val] S1x1.size (inb_sem s b))).squeeze S_ squeezes_S1x1_S_).sem

/-! ## The pieces -/

abbrev KProg (α : Type) : Type 1 := Prog (TpuEff nD τ sig (Elt F) Λ₀ .tc) α

/-- A row block of the chunk buffer as it is first sent, and one added to what came in. -/
abbrev firstRow (v : Vec F S1024x1024 .f32) : FVec F S1024x1024 .bf16 := truncf .bf16 v bitsLt_bf16_f32
abbrev nextRow (v : Vec F S1024x1024 .f32) (w : FVec F S1024x1024 .bf16) : FVec F S1024x1024 .bf16 := addf (truncf .bf16 v bitsLt_bf16_f32) w

abbrev toSlot (v : FVec F S1024x1024 .bf16) : FVec F S1x1024x1024 .bf16 := shapeCast S1x1024x1024 v shapeCasts_S1024x1024_S1x1024x1024
abbrev ofSlot (v : FVec F S1x1x1024x1024 .bf16) : FVec F S1024x1024 .bf16 := shapeCast S1024x1024 v shapeCasts_S1x1x1024x1024_S1024x1024

/-- The two signals of the entry handshake and the wait for both. -/
def signalP (n : Dev nD) : KProg (F := F) PUnit := semSignalWord n barS 1#32
def barWaitP : KProg (F := F) PUnit := semWaitWord barS 2#32

/-- A column chunk copied into the chunk buffer: started and waited for. -/
def copyP (off : Fin 3 → Nat) (h : ∀ a, off a + S1x4096x1024.size a ≤ S1x4096x4096.size a) : KProg (F := F) PUnit := do
  Prog.lift (.enqueueDma (srcV off h) (.here fM) (.dma cpyS) ((View.wordExact_bits rfl).reshape _ _) (Memref.isWhole_whole cc0_scratch0).wordExact ⟨Or.inl rfl, trivial⟩)
  Prog.lift (.waitDma2 cpyS (srcV off h) fM ((View.wordExact_bits rfl).reshape _ _) (Memref.isWhole_whole cc0_scratch0).wordExact)

def loadRowP (b : Fin 4) : KProg (F := F) (Vec F S1024x1024 .f32) :=
  Prog.lift (.load fM (rowR b).toLoadRect (View.loadsAt_vmem h_S1024x1024))
def loadComP (s : Fin 3) (b : Fin 4) : KProg (F := F) (Vec F S1x1x1024x1024 .bf16) :=
  Prog.lift (.load cM (comR s b).toLoadRect (View.loadsAt_vmem h_S1x1x1024x1024))

/-- Outgoing row block `b` written (its old contents read first, as the printed program does). -/
def putP (b : Fin 4) (v : FVec F S1x1024x1024 .bf16) : KProg (F := F) PUnit := do
  let _ : Vec F S1x1024x1024 .bf16 ← Prog.lift (.load sM (sndR b).toLoadRect (View.loadsAt_vmem h_S1x1024x1024))
  Prog.lift (.store sM (sndR b) v Finset.univ
    (View.stores_vmem h_S1x1024x1024 ((Memref.isWhole_whole cc0_scratch1).storeExact_slice rfl _ (packed_snd b)) (fun _ => rfl)) (.inl rfl))

/-- Row block `b` of the result written. -/
def outP (b : Fin 4) (v : FVec F S1024x1024 .bf16) : KProg (F := F) PUnit := do
  let _ : Vec F S1024x1024 .bf16 ← Prog.lift (.load oM (rowR b).toLoadRect (View.loadsAt_vmem h_S1024x1024))
  Prog.lift (.store oM (rowR b) v Finset.univ
    (View.stores_vmem h_S1024x1024 ((Memref.isWhole_whole cc0_stg0_0).storeExact_slice rfl _ (packed_row b)) (fun _ => rfl)) (.inl rfl))

/-- Outgoing row block `b` copied to device `n`'s incoming block `(s, b)`. -/
def sendP (n : Dev nD) (s : Fin 3) (b : Fin 4) : KProg (F := F) PUnit :=
  Prog.lift (.enqueueDma (sndV b) (.remote (Dev.tc n) (comV s b) (.dma (sndS s b))) (.dma (rcvS s b)) (sndV_exact b) (comV_exact s b) ⟨⟨rfl, Or.inl rfl⟩, trivial⟩)
def recvWaitP (s : Fin 3) (b : Fin 4) : KProg (F := F) PUnit :=
  Prog.lift (.waitDma2 (rcvS s b) (sndV b) (comV s b) (sndV_exact b) (comV_exact s b))
def sendWaitP (s : Fin 3) (b : Fin 4) : KProg (F := F) PUnit :=
  Prog.lift (.waitDma2 (sndS s b) (comV s b) (sndV b) (comV_exact s b) (sndV_exact b))

/-- Row block `b` prepared for the first step. -/
def initP (b : Fin 4) : KProg (F := F) PUnit := do
  let v ← loadRowP b
  putP b (toSlot (firstRow v))

/-- Row block `b` of step `s + 1`: what step `s` brought is added to the block and sent on. -/
def iterP (s : Fin 2) (b : Fin 4) (n : Dev nD) : KProg (F := F) PUnit := do
  recvWaitP s.castSucc b
  sendWaitP s.castSucc b
  let v ← loadRowP b
  let w ← loadComP s.castSucc b
  putP b (toSlot (nextRow v (ofSlot w)))
  sendP n s.succ b

/-- The last step's row block `b`: what came in is added and stored. -/
def lastP (b : Fin 4) : KProg (F := F) PUnit := do
  recvWaitP 2 b
  let v ← loadRowP b
  let w ← loadComP 2 b
  outP b (nextRow v (ofSlot w))
  sendWaitP 2 b

/-- One piece per row block, in order. -/
def rowsP (p : Fin 4 → KProg (F := F) PUnit) : KProg (F := F) PUnit := do
  p 0
  p 1
  p 2
  p 3

/-- The device each remote copy of the program is addressed to, step by step and row block by row block. -/
def dstOf (c : Dev nD) : Fin 3 → Fin 4 → Dev nD
  | 0, 0 => ⟨k0_dev3 c, k0_dev3_lt c⟩ | 0, 1 => ⟨k0_dev4 c, k0_dev4_lt c⟩ | 0, 2 => ⟨k0_dev5 c, k0_dev5_lt c⟩ | 0, 3 => ⟨k0_dev6 c, k0_dev6_lt c⟩
  | 1, 0 => ⟨k0_dev7 c, k0_dev7_lt c⟩ | 1, 1 => ⟨k0_dev8 c, k0_dev8_lt c⟩ | 1, 2 => ⟨k0_dev9 c, k0_dev9_lt c⟩ | 1, 3 => ⟨k0_dev10 c, k0_dev10_lt c⟩
  | 2, 0 => ⟨k0_dev11 c, k0_dev11_lt c⟩ | 2, 1 => ⟨k0_dev12 c, k0_dev12_lt c⟩ | 2, 2 => ⟨k0_dev13 c, k0_dev13_lt c⟩ | 2, 3 => ⟨k0_dev14 c, k0_dev14_lt c⟩

/-- The body on device `d`. -/
def bodyP (d : Dev nD) : KProg (F := F) PUnit := do
  signalP ⟨k0_dev1 d, k0_dev1_lt d⟩
  signalP ⟨k0_dev2 d, k0_dev2_lt d⟩
  copyP (k0_off1 d 1#32) (k0_off1_inb d 0)
  rowsP initP
  barWaitP
  rowsP fun b => sendP (dstOf d 0 b) 0 b
  copyP (k0_off1 d 2#32) (k0_off1_inb d 1)
  rowsP fun b => iterP 0 b (dstOf d 1 b)
  copyP (k0_off2 d 1#32) (k0_off2_inb d 0)
  rowsP fun b => iterP 1 b (dstOf d 2 b)
  copyP (k0_off2 d 2#32) (k0_off2_inb d 1)
  rowsP lastP

set_option maxRecDepth 65536 in
/-- The printed body is the pieces in order, on the device it reads. -/
theorem body_eq :
    cc0_body (F := F) (Memref.whole main_arg0) (Memref.isWhole_whole _) (Memref.whole cc0_stg0_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5
      = (Prog.lift .deviceId >>= fun d => bodyP (F := F) d) := by
  rfl

end Cert.KernelIdeal.Proof

end
-- ==== Proof.KernelIdeal.Base.lean ====
/-
  The protocol of the ring reduce-scatter: who its neighbours are, which cells it uses, what each buffer holds at each
  step, what every signal and copy hands over, what each device owes at launch and the levels the waits go by.

  A device `c = 16 x + 4 y + z` talks to the devices of its row `(x, y)`: `nxt c` has the next `z`, `prv c` the one before.
  Cells of device `c`, each used once:
    * the barrier semaphore: one unit from `prv c` (nothing with it) and one from `nxt c`, which comes with the twelve
      incoming row blocks of `nxt c`, that `c` is about to write;
    * a send semaphore per step and row block: the block's credit, with `c`'s own outgoing row block;
    * a receive semaphore per step and row block: the block's credit, with `c`'s incoming row block holding what `prv c`
      sent at that step.
  The semaphore of the local copies is not shared: `c` starts and awaits its copies alone.
-/
module

public import proofs.«01_k».proof.Proof.KernelIdeal.Pieces
public import proofs.«01_k».proof.Proof.Tiles
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles

variable {F : FTy → Type} [FloatOps F]

/-! ## The resource algebra: the pipeline library's rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER (F := F)).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨c.val / 4 * 4 + (c.val + 1) % 4, by have := c.isLt; simp only [nD] at this ⊢; omega⟩
set_option backward.proofsInPublic true in
def prv (c : Dev nD) : Dev nD := ⟨c.val / 4 * 4 + (c.val + 3) % 4, by have := c.isLt; simp only [nD] at this ⊢; omega⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The first signal goes to the device before, the second to the one after, and so does every copy. -/
theorem left_eq (c : Dev nD) : (⟨k0_dev1 c, k0_dev1_lt c⟩ : Dev nD) = prv c := by revert c; decide +kernel
theorem right_eq (c : Dev nD) : (⟨k0_dev2 c, k0_dev2_lt c⟩ : Dev nD) = nxt c := by revert c; decide +kernel

set_option maxRecDepth 8000 in
theorem dstOf_eq (c : Dev nD) (s : Fin 3) (b : Fin 4) : dstOf c s b = nxt c := by revert c s b; decide +kernel

/-- The column chunk device `c` reads before step `k`: its own at step 3, before that those of the other devices of its row. -/
def chunkOf (c : Dev nD) (k : ℕ) : Fin 4 := ⟨(c.val + 3 + 3 * k) % 4, Nat.mod_lt _ (by decide)⟩

/-- The offsets the program's four local copies compute are those of these chunks. -/
theorem off0_eq (c : Dev nD) : k0_off1 c 1#32 = ![0, 0, 1024 * (chunkOf c 0).val] := by revert c; decide +kernel
theorem off1_eq (c : Dev nD) : k0_off1 c 2#32 = ![0, 0, 1024 * (chunkOf c 1).val] := by revert c; decide +kernel
theorem off2_eq (c : Dev nD) : k0_off2 c 1#32 = ![0, 0, 1024 * (chunkOf c 2).val] := by revert c; decide +kernel
theorem off3_eq (c : Dev nD) : k0_off2 c 2#32 = ![0, 0, 1024 * (chunkOf c 3).val] := by revert c; decide +kernel

/-! ## Cells -/

/-- A device's cells: its barrier's, a send and a receive cell per step and row block. -/
abbrev Blk : Type := Fin 3 × Fin 4
abbrev CI : Type := Unit ⊕ Blk ⊕ Blk

abbrev csem : CI → SemLoc sig
  | .inl _ => .reg barS
  | .inr (.inl p) => .dma (sndS p.1 p.2)
  | .inr (.inr p) => .dma (rcvS p.1 p.2)

abbrev barCell (c : Dev nD) : GSem nD τ sig := ((c : Thread nD τ), .reg barS)
abbrev sndCell (p : Blk) (c : Dev nD) : GSem nD τ sig := ((c : Thread nD τ), .dma (sndS p.1 p.2))
abbrev rcvCell (p : Blk) (c : Dev nD) : GSem nD τ sig := ((c : Thread nD τ), .dma (rcvS p.1 p.2))
abbrev cpyCell (c : Dev nD) : GSem nD τ sig := ((c : Thread nD τ), .dma cpyS)
abbrev kcell (ck : Dev nD × CI) : GSem nD τ sig := ((ck.1 : Thread nD τ), csem ck.2)

/-- Which cell a semaphore is, if any: the send semaphores follow the copies' own, the receive semaphores follow them. -/
def role : SemLoc sig → Option CI
  | .reg _ => some (.inl ())
  | .dma q =>
    if q.val < 2 then none
    else if q.val < 14 then some (.inr (.inl (⟨(q.val - 2) / 4 % 3, Nat.mod_lt _ (by decide)⟩, ⟨(q.val - 2) % 4, Nat.mod_lt _ (by decide)⟩)))
    else some (.inr (.inr (⟨(q.val - 14) / 4 % 3, Nat.mod_lt _ (by decide)⟩, ⟨(q.val - 14) % 4, Nat.mod_lt _ (by decide)⟩)))

theorem role_csem (k : CI) : role (csem k) = some k := by revert k; decide +kernel
theorem role_cpy : role (.dma cpyS) = none := by decide

theorem csem_injective : Function.Injective csem := fun k k' h => by
  have := congrArg role h
  rwa [role_csem, role_csem, Option.some.injEq] at this

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one row block's copy credits its semaphores. -/
@[irreducible] def N : ℕ := (sndV 0).view.dmaCredit
theorem N_pos : 0 < N := by unfold N; exact View.dmaCredit_pos _ (by decide)
theorem com_credit (s : Fin 3) (b : Fin 4) : (comV s b).view.dmaCredit = N := by unfold N; rfl
theorem snd_credit (b : Fin 4) : (sndV b).view.dmaCredit = N := by unfold N; rfl

/-! ## Contents -/

/-- A column chunk of the argument; the one device `c` holds in its chunk buffer during step `k`; a row block of it. -/
abbrev chunkV (q : Fin 4) : Memref sig .tc .hbm S4096x1024 .f32 := srcV ![0, 0, 1024 * q.val] (inb_chunk q)
def stg (k : ℕ) (c : Dev nD) : Vec F S4096x1024 .f32 :=
  (chunkV (chunkOf c k)).view.read (Elt F) (m ((c : Thread nD τ).loc main_arg0))
def rowsOf (b : Fin 4) (v : Vec F S4096x1024 .f32) : Vec F S1024x1024 .f32 := fun j => v ((rowR b).emb j)

/-- What device `c` sends of row block `b` at step `k`: its own block of the step's chunk, to which from step 1 on
    what the device before sent at the step before is added. What it would send at step 3 is its result. -/
def sent : ℕ → Fin 4 → Dev nD → FVec F S1024x1024 .bf16
  | 0, b, c => firstRow (rowsOf b (stg m 0 c))
  | k + 1, b, c => nextRow (rowsOf b (stg m (k + 1) c)) (sent k b (prv c))

/-- An outgoing or an incoming row block, whatever it holds; -/
def anySnd (b : Fin 4) (c : Dev nD) : sProp 𝕄 := iprop(∃ f, sM.view.loc (c : Thread nD τ) ↦[(sndV b).view.set]{fullShare} f)
def anyCom (p : Blk) (c : Dev nD) : sProp 𝕄 := iprop(∃ f, cM.view.loc (c : Thread nD τ) ↦[(comV p.1 p.2).view.set]{fullShare} f)
/-- and holding what device `d` sends at step `k`. -/
def sndAt (k : ℕ) (b : Fin 4) (c : Dev nD) : sProp 𝕄 := owns (c : Thread nD τ) (sndV b) fullShare (sent m k b c)
def comAt (p : Blk) (c : Dev nD) : sProp 𝕄 := owns (c : Thread nD τ) (comV p.1 p.2) fullShare (sent m p.1.val p.2 (prv c))

omit [FloatOps F] in
instance anySnd_storable (b : Fin 4) (c : Dev nD) : BI.Storable (upEmb : UEmb _ 𝕄) (anySnd (F := F) b c) := by unfold anySnd; infer_instance
omit [FloatOps F] in
instance anyCom_storable (p : Blk) (c : Dev nD) : BI.Storable (upEmb : UEmb _ 𝕄) (anyCom (F := F) p c) := by unfold anyCom; infer_instance
instance comAt_storable (p : Blk) (c : Dev nD) : BI.Storable (upEmb : UEmb _ 𝕄) (comAt (F := F) m p c) := by unfold comAt; infer_instance

/-! ## The schedule -/

/-- What `nxt c`'s signal hands `c`: the incoming row blocks of `nxt c`, whatever they hold. -/
def barPay (c : Dev nD) : sProp 𝕄 := bigSep Finset.univ fun p : Blk => anyCom p (nxt c)

omit [FloatOps F] in
instance barPay_storable (c : Dev nD) : BI.Storable (upEmb : UEmb _ 𝕄) (barPay (F := F) c) := by unfold barPay; infer_instance

def dutiesOf : Option CI → Finset Bool
  | none => ∅ | some (.inl _) => Finset.univ | some (.inr _) => {false}
def amountOf : Option CI → ℕ
  | some (.inl _) => 1 | _ => N
theorem amountOf_inl (u : Unit) : amountOf (some (.inl u)) = 1 := by simp only [amountOf]
theorem amountOf_inr (x : Blk ⊕ Blk) : amountOf (some (.inr x)) = N := by simp only [amountOf]
theorem amountOf_pos (k : Option CI) : 0 < amountOf k := by
  unfold amountOf
  split
  · exact Nat.one_pos
  · exact N_pos
def payloadOf (c : Dev nD) (d : Bool) : Option CI → sProp 𝕄
  | some (.inl _) => if d then barPay c else iprop(emp)
  | some (.inr (.inl p)) => anySnd p.2 c
  | some (.inr (.inr p)) => comAt m p c
  | none => iprop(emp)

/-- One round. A barrier cell has two duties of one unit, `false` for the device before and `true` for the one after;
    a send or receive cell one duty, of the block's credit. -/
def sched : Rounds.Schedule (GSem nD τ sig) Bool 𝕄 where
  duties g r := if r = 0 ∧ g.1.2 = .tc then dutiesOf (role g.2) else ∅
  unitless _ := False
  amount g _ _ := amountOf (role g.2)
  payload g _ d := payloadOf m g.1.1 d (role g.2)
  amount_pos g _ _ _ := amountOf_pos (role g.2)

instance sched_payload_storable (g : GSem nD τ sig) (r : ℕ) (d : Bool) :
    BI.Storable (upEmb : UEmb _ 𝕄) ((sched (F := F) m).payload g r d) := by
  show BI.Storable upEmb (payloadOf m g.1.1 d (role g.2))
  rcases role g.2 with _ | _ | _ | _ <;> unfold payloadOf
  · infer_instance
  · dsimp only; split <;> infer_instance
  · infer_instance
  · infer_instance

section Sched
variable (c : Dev nD) (p : Blk)

theorem duties_kcell (k : CI) : (sched (F := F) m).duties (kcell (c, k)) 0 = dutiesOf (some k) := by
  show (if (0 : ℕ) = 0 ∧ (c : Thread nD τ).2 = .tc then dutiesOf (role (csem k)) else ∅) = _
  rw [if_pos ⟨rfl, rfl⟩, role_csem]
theorem amount_kcell (k : CI) (d : Bool) : (sched (F := F) m).amount (kcell (c, k)) 0 d = amountOf (some k) := by
  show amountOf (role (csem k)) = _; rw [role_csem]
theorem payload_kcell (k : CI) (d : Bool) : (sched (F := F) m).payload (kcell (c, k)) 0 d = payloadOf m c d (some k) := by
  show payloadOf m c d (role (csem k)) = _; rw [role_csem]
theorem duties_later (g : GSem nD τ sig) : ∀ r, 1 ≤ r → (sched (F := F) m).duties g r = ∅ :=
  fun r hr => if_neg fun h => by omega

theorem duties_bar : (sched (F := F) m).duties (barCell c) 0 = Finset.univ := duties_kcell m c (.inl ())
theorem duties_snd : (sched (F := F) m).duties (sndCell p c) 0 = {false} := duties_kcell m c (.inr (.inl p))
theorem duties_rcv : (sched (F := F) m).duties (rcvCell p c) 0 = {false} := duties_kcell m c (.inr (.inr p))
theorem amount_bar (d : Bool) : (sched (F := F) m).amount (barCell c) 0 d = 1 := (amount_kcell m c (.inl ()) d).trans (amountOf_inl ())
theorem amount_snd (d : Bool) : (sched (F := F) m).amount (sndCell p c) 0 d = N := (amount_kcell m c (.inr (.inl p)) d).trans (amountOf_inr (.inl p))
theorem amount_rcv (d : Bool) : (sched (F := F) m).amount (rcvCell p c) 0 d = N := (amount_kcell m c (.inr (.inr p)) d).trans (amountOf_inr (.inr p))
theorem payload_bar_true : (sched (F := F) m).payload (barCell c) 0 true = barPay c := payload_kcell m c (.inl ()) true
theorem payload_bar_false : (sched (F := F) m).payload (barCell c) 0 false = iprop(emp) := payload_kcell m c (.inl ()) false
theorem payload_snd (d : Bool) : (sched (F := F) m).payload (sndCell p c) 0 d = anySnd p.2 c := payload_kcell m c (.inr (.inl p)) d
theorem payload_rcv (d : Bool) : (sched (F := F) m).payload (rcvCell p c) 0 d = comAt m p c := payload_kcell m c (.inr (.inr p)) d

theorem expect_bar : (sched (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_snd : (sched (F := F) m).expect (sndCell p c) 0 = N := by
  unfold Schedule.expect Schedule.amountOf; rw [duties_snd, Finset.sum_singleton, amount_snd]
theorem expect_rcv : (sched (F := F) m).expect (rcvCell p c) 0 = N := by
  unfold Schedule.expect Schedule.amountOf; rw [duties_rcv, Finset.sum_singleton, amount_rcv]

/-- What a wait for a whole round brings. -/
theorem rest_bar : bigSep ((sched (F := F) m).duties (barCell c) 0 \ ∅) (fun d => (sched (F := F) m).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
theorem rest_snd : bigSep ((sched (F := F) m).duties (sndCell p c) 0 \ ∅) (fun d => (sched (F := F) m).payload (sndCell p c) 0 d) = anySnd p.2 c := by
  rw [Finset.sdiff_empty, duties_snd, bigSep_singleton, payload_snd]
theorem rest_rcv : bigSep ((sched (F := F) m).duties (rcvCell p c) 0 \ ∅) (fun d => (sched (F := F) m).payload (rcvCell p c) 0 d) = comAt m p c := by
  rw [Finset.sdiff_empty, duties_rcv, bigSep_singleton, payload_rcv]

end Sched

/-! ## What is owed; the levels -/

/-- The copies of device `c` from the `i`-th on, counted step by step: each owes the receive cell it lands on its credit. -/
def owedFrom (c : Dev nD) (i : ℕ) : CellTallies nD τ sig Unit :=
  ∑ p ∈ (Finset.univ : Finset Blk).filter (fun p => i ≤ 4 * p.1.val + p.2.val), tallyAt (rcvCell p (nxt c)) () N
/-- At launch a device owes all its copies and a unit to either neighbour's barrier. -/
def O₁ (c : Dev nD) : CellTallies nD τ sig Unit := owedFrom c 0 + tallyAt (barCell (nxt c)) () 1
def O₀ (c : Dev nD) : CellTallies nD τ sig Unit := O₁ c + tallyAt (barCell (prv c)) () 1

theorem filter_step : ∀ p : Blk, (Finset.univ : Finset Blk).filter (fun p' => 4 * p.1.val + p.2.val ≤ 4 * p'.1.val + p'.2.val)
      = insert p ((Finset.univ : Finset Blk).filter fun p' => 4 * p.1.val + p.2.val + 1 ≤ 4 * p'.1.val + p'.2.val) := by decide

/-- A copy pays its own summand. -/
theorem owed_step (c : Dev nD) (p : Blk) :
    owedFrom c (4 * p.1.val + p.2.val) = owedFrom c (4 * p.1.val + p.2.val + 1) + tallyAt (rcvCell p (nxt c)) () N := by
  unfold owedFrom
  rw [filter_step p, Finset.sum_insert (by simp), add_comm]
theorem owed_done (c : Dev nD) : owedFrom c 12 = 0 := by
  unfold owedFrom
  rw [show (Finset.univ : Finset Blk).filter (fun p => 12 ≤ 4 * p.1.val + p.2.val) = ∅ from by decide, Finset.sum_empty]

def L (g : GSem nD τ sig) : Finset Unit := if g.1.2 = .tc then {()} else ∅
/-- Barrier cells at level 1, the receive cells of step `s` at level `2 + s`, everything else at 0. -/
def lvOf : Option CI → ℕ
  | some (.inl _) => 1 | some (.inr (.inr p)) => 2 + p.1.val | _ => 0
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : CI) : lv (kcell (c, k)) () = lvOf (some k) := by show lvOf (role (csem k)) = _; rw [role_csem]

theorem owedFrom_pos {c : Dev nD} {i : ℕ} {g : GSem nD τ sig} {u : Unit} (h : 0 < owedFrom c i g u) :
    ∃ p : Blk, i ≤ 4 * p.1.val + p.2.val ∧ g = rcvCell p (nxt c) := by
  unfold owedFrom at h
  rw [Finset.sum_apply, Finsupp.finset_sum_apply] at h
  obtain ⟨p, hp, hpos⟩ := Finset.exists_ne_zero_of_sum_ne_zero (Nat.pos_iff_ne_zero.mp h)
  refine ⟨p, (Finset.mem_filter.mp hp).2, ?_⟩
  rw [tallyAt_apply] at hpos
  by_contra hn
  exact hpos (if_neg fun h' => hn h'.1)

theorem pos_of_add {A : CellTallies nD τ sig Unit} {g g' : GSem nD τ sig} {n : ℕ} {u : Unit} (h : 0 < (A + tallyAt g' () n) g u) :
    0 < A g u ∨ g = g' := by
  rw [Pi.add_apply, Finsupp.add_apply, tallyAt_apply] at h
  by_cases e : g = g'
  · exact .inr e
  · rw [if_neg fun h' => e h'.1] at h; exact .inl h

theorem O₀_pos {c : Dev nD} {g : GSem nD τ sig} {u : Unit} (h : 0 < O₀ c g u) :
    (∃ p : Blk, g = rcvCell p (nxt c)) ∨ g = barCell (nxt c) ∨ g = barCell (prv c) := by
  unfold O₀ O₁ at h
  rcases pos_of_add h with h | h
  · rcases pos_of_add h with h | h
    · exact .inl ((owedFrom_pos h).imp fun p hp => hp.2)
    · exact .inr (.inl h)
  · exact .inr (.inr h)

/-- A semaphore at level `n` may be awaited while everything owed lies above. -/
theorem mayWait_of {c : Dev nD} {sm : SemLoc sig} {O : CellTallies nD τ sig Unit} (n : ℕ) (hn : lvOf (role sm) ≤ n)
    (hO : ∀ g u, 0 < O g u → ∃ (d : Dev nD) (k : CI), g = kcell (d, k) ∧ n < lvOf (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, hk⟩ := hO g u hg; rw [show u = () from rfl, lv_kcell]; exact hk)

/-- While the copies from the `i`-th on are owed, any semaphore below their steps' level may be awaited. -/
theorem mayWait_from (c : Dev nD) (sm : SemLoc sig) (i : ℕ) (hi : 4 * lvOf (role sm) ≤ i + 4) :
    (levAts L lv : sProp 𝕄) ⊢ MayWait (c : Thread nD τ) sm () (owedFrom c i) :=
  mayWait_of (lvOf (role sm)) le_rfl fun g u hg => by
    obtain ⟨p, hp, rfl⟩ := owedFrom_pos hg
    refine ⟨nxt c, .inr (.inr p), rfl, ?_⟩
    have := p.2.isLt
    show lvOf (role sm) < 2 + p.1.val
    omega

/-- A semaphore of level 0 may be awaited even before the barriers are signalled. -/
theorem mayWait_launch (c : Dev nD) (sm : SemLoc sig) (h0 : lvOf (role sm) = 0) :
    (levAts L lv : sProp 𝕄) ⊢ MayWait (c : Thread nD τ) sm () (O₀ c) :=
  mayWait_of 0 (by rw [h0]) fun g u hg => by
    rcases O₀_pos hg with ⟨p, rfl⟩ | rfl | rfl
    · exact ⟨nxt c, .inr (.inr p), rfl, Nat.lt_of_lt_of_le (by decide : 0 < 2) (Nat.le_add_right 2 _)⟩
    · exact ⟨nxt c, .inl (), rfl, Nat.one_pos⟩
    · exact ⟨prv c, .inl (), rfl, Nat.one_pos⟩

end Cert.KernelIdeal.Proof

end
-- ==== Proof.KernelIdeal.Steps.lean ====
/-
  What each piece of the body does, proved once per kind of piece: the resources it takes, at whatever step and row
  block, and what it gives back.
-/
module

public import proofs.«01_k».proof.Proof.KernelIdeal.Base

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles

variable {F : FTy → Type} [FloatOps F]

local notation "𝕄" => MT nD τ sig Unit (Elt F) ℕ UU ℕ

variable (m : (ℓ : Loc nD τ sig) → Buf (Elt F) ℓ)

abbrev 𝒱₀ : Variants := Variants.none

/-- A piece run on device `c`. -/
abbrev run (c : Dev nD) {α : Type} (p : KProg (F := F) α) (Q : α → sProp 𝕄) : sProp 𝕄 :=
  wp frame (wpE (defs₀ (F := F)) 𝒱₀ (c : Thread nD τ) none) Set.univ p Q

/-- A piece, then the rest of the program. -/
theorem run_then {c : Dev nD} {α β : Type} {p : KProg (F := F) α} {k : α → KProg (F := F) β} {P : sProp 𝕄} {Q : α → sProp 𝕄} {R : β → sProp 𝕄}
    (h : P ⊢ run c p Q) : iprop(P ∗ (∀ a, Q a -∗ run c (k a) R)) ⊢ run c (p >>= k) R := by
  unfold run
  rw [wp_bind]
  exact (sep_mono_left h).trans (wp_wand_r frame _ _)

/-! ## Reading and writing the row blocks -/

section Views
variable (b : Fin 4) (s : Fin 3)

omit [FloatOps F] in
/-- A row block of the chunk buffer, of the result's buffer. -/
theorem read_rows (f : Vec F S4096x1024 .f32) : fM.view.readAt (Elt F) (rowR b).toLoadRect f = rowsOf b f := rfl

omit [FloatOps F] in
theorem set_snd : (sndV b).view.set = (sM.view.slice (sndR b)).set := View.set_reshape _ _
omit [FloatOps F] in
theorem set_com : (comV s b).view.set = (cM.view.slice (comR s b)).set := View.set_reshape _ _

omit [FloatOps F] in
/-- An incoming row block as loaded, and as its view reads it. -/
theorem read_com (f : cM.view.ty.Contents (Elt F)) :
    ofSlot (cM.view.readAt (Elt F) (comR s b).toLoadRect f) = (comV s b).view.read (Elt F) f := rfl

omit [FloatOps F] in
/-- An outgoing row block as its view reads it, once stored. -/
theorem read_stored (f : sM.view.ty.Contents (Elt F)) (v : FVec F S1024x1024 .bf16) :
    (sndV b).view.read (Elt F) ((sM.access (sndR b)).write (Elt F) f (toSlot v) Finset.univ) = v := by
  rw [show (sndV b).view.read (Elt F) ((sM.access (sndR b)).write (Elt F) f (toSlot v) Finset.univ)
      = fun j => (sM.access (sndR b)).read (Elt F) ((sM.access (sndR b)).write (Elt F) f (toSlot v) Finset.univ)
          (Shape.reshapeEquiv squeezes_S1x1024x1024_S1024x1024.numel_eq j) from rfl, View.read_write_univ]
  funext j
  show v (Shape.reshapeEquiv _ (Shape.reshapeEquiv _ j)) = v j
  rw [Shape.reshapeEquiv_reshapeEquiv, Shape.reshapeEquiv_self]
end Views

/-! ## What a device holds -/

variable (K : Dev nD × CI → ℕ)

/-- What every device knows of all cells: their invariants, under the names `K`, and that their round has been reached. -/
def records : sProp 𝕄 :=
  iprop((bigSep Finset.univ fun ck : Dev nD × CI => cellInv ER (sched m) (K ck) (kcell ck))
    ∗ (bigSep Finset.univ fun ck : Dev nD × CI => reached ER (kcell ck) 0) ∗ levAts L lv)

instance records_persistent : BI.Persistent (records m K) := by unfold records; infer_instance

theorem inv_at (ck : Dev nD × CI) : records m K ⊢ cellInv ER (sched m) (K ck) (kcell ck) := by
  unfold records; iintro ⟨#H, -, -⟩
  ihave H' := (show (bigSep Finset.univ fun ck : Dev nD × CI => (cellInv ER (sched m) (K ck) (kcell ck) : sProp 𝕄)) ⊢ _ from bigSep_elim (Finset.mem_univ ck)) $$ H
  iexact H'
theorem reached_at (ck : Dev nD × CI) : records m K ⊢ reached ER (kcell ck) 0 := by
  unfold records; iintro ⟨-, #H, -⟩
  ihave H' := (show (bigSep Finset.univ fun ck : Dev nD × CI => (reached ER (kcell ck) 0 : sProp 𝕄)) ⊢ _ from bigSep_elim (Finset.mem_univ ck)) $$ H
  iexact H'
theorem mayWait_at (c : Dev nD) (sm : SemLoc sig) (i : ℕ) (hi : 4 * lvOf (role sm) ≤ i + 4) :
    records m K ⊢ MayWait (c : Thread nD τ) sm () (owedFrom c i) := by
  unfold records; iintro ⟨-, -, #H⟩
  iapply (mayWait_from c sm i hi); iexact H

/-- The device owes its copies from the `i`-th on. -/
def ow (c : Dev nD) (i : ℕ) : sProp 𝕄 := iprop(∃ W, owes (c : Thread nD τ) (owedFrom c i) W)

/-- The argument; the chunk buffer holding `v`; a row block of the result's buffer, whatever it holds. -/
def argPts (c : Dev nD) : sProp 𝕄 := ((c : Thread nD τ).loc main_arg0) ↦{fullShare} m ((c : Thread nD τ).loc main_arg0)
def fPts (c : Dev nD) (v : Vec F S4096x1024 .f32) : sProp 𝕄 := ((c : Thread nD τ).loc cc0_scratch0) ↦{fullShare} v
def anyOut (b : Fin 4) (c : Dev nD) : sProp 𝕄 := iprop(∃ f, oM.view.loc (c : Thread nD τ) ↦[(oM.view.slice (rowR b)).set]{fullShare} f)
def outAt (b : Fin 4) (c : Dev nD) : sProp 𝕄 := owns (c : Thread nD τ) (oM.slice (rowR b) fun _ => rfl) fullShare (sent m 3 b c)

/-- A row block's copy before it starts: the positions at its two cells, the duties it pays, the credit for what arrives; -/
def ready (p : Blk) (c : Dev nD) : sProp 𝕄 :=
  iprop(atPos ER (sndCell p c) 0 ∅ 0 ∗ atPos ER (rcvCell p c) 0 ∅ 0 ∗ dutyTok ER (sndCell p c) 0 false ∗ dutyTok ER (rcvCell p (nxt c)) 0 false
    ∗ cred (tallyAt (rcvCell p c) () N))
/-- started: the credit for its completion as well; -/
def flying (p : Blk) (c : Dev nD) : sProp 𝕄 :=
  iprop(atPos ER (sndCell p c) 0 ∅ 0 ∗ atPos ER (rcvCell p c) 0 ∅ 0 ∗ cred (tallyAt (sndCell p c) () N) ∗ cred (tallyAt (rcvCell p c) () N))
/-- and over, both cells closed and the incoming row block in place. -/
def landed (p : Blk) (c : Dev nD) : sProp 𝕄 := iprop(semVal (sndCell p c) 0 ∗ semVal (rcvCell p c) 0 ∗ comAt m p c)

end Cert.KernelIdeal.Proof

end
-- ==== Proof.KernelIdeal.Moves.lean ====
/-
  The pieces that move data: the local copies, the remote copies, the waits for them.
-/
module

public import proofs.«01_k».proof.Proof.KernelIdeal.Steps

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles

variable {F : FTy → Type} [FloatOps F]

local notation "𝕄" => MT nD τ sig Unit (Elt F) ℕ UU ℕ

variable (m : (ℓ : Loc nD τ sig) → Buf (Elt F) ℓ)

variable (K : Dev nD × CI → ℕ)

/-! ## Local copies -/

/-- What a local copy credits its semaphore. -/
abbrev Nf : ℕ := fM.view.dmaCredit
theorem Nf_pos : 0 < Nf := View.dmaCredit_pos _ (by decide)
theorem copy_amount : fM.view.amount (.dma cpyS) = Nf := rfl

/-- The chunk of step `k` copied into the chunk buffer. -/
theorem run_copy (c : Dev nD) (k i : ℕ) (off : Fin 3 → Nat) (hin : ∀ a, off a + S1x4096x1024.size a ≤ S1x4096x4096.size a)
    (hoff : off = ![0, 0, 1024 * (chunkOf c k).val]) :
    iprop(records m K ∗ argPts m c ∗ (∃ f, fPts c f) ∗ semVal (cpyCell c) 0 ∗ ow c i)
      ⊢ run c (copyP off hin) fun _ => iprop(argPts m c ∗ fPts c (stg m k c) ∗ semVal (cpyCell c) 0 ∗ ow c i) := by
  subst hoff
  unfold run copyP argPts fPts ow
  simp only [Prog.lift, Prog.bind_op, Prog.bind_ret]
  iintro ⟨#HR, Hx, ⟨%f, Hf⟩, Hv, ⟨%W, HO⟩⟩
  ihave Hx := (pointsTo_split_subset (Finset.subset_univ (chunkV (chunkOf c k)).view.set)).1 $$ Hx
  icases Hx with ⟨Hx, Hrest⟩
  iapply (Transfers.wp_dmaLocal EC 𝒱₀ (c : Thread nD τ) none (src := chunkV (chunkOf c k)) (dst := fM) (sm := .dma cpyS) (Sd := Finset.univ) (fs := m ((c : Thread nD τ).loc main_arg0)) (fd := f)
      () Nf copy_amount Nf_pos (Finset.subset_univ _)) $$ [Hx Hf Hv]
  · isplitl [Hx]; · iexact Hx
    isplitl [Hf]; · iexact Hf
    iexact Hv
  iintro Hfl
  iapply (Transfers.wp_waitLocalO EC 𝒱₀ (c : Thread nD τ) none (sem := cpyS) (srcw := chunkV (chunkOf c k)) (dstw := fM) () (N := Nf) rfl) $$ [Hfl HO]
  · isplitl [Hfl]; · iexact Hfl
    isplitl [HO]; · iexact HO
    iapply (mayWait_at m K c (.dma cpyS) i (by rw [role_cpy]; exact Nat.zero_le _)); iexact HR
  iintro ⟨⟨Hf, Hx⟩, Hv, HO⟩
  rw [wp_ret]; imodintro
  isplitl [Hx Hrest]
  · iapply (pointsTo_split_subset (Finset.subset_univ (chunkV (chunkOf c k)).view.set)).2
    isplitl [Hx] <;> iassumption
  isplitl [Hf]
  · iapply (Entails.of_eq (congrArg (fun v : Vec F S4096x1024 .f32 => (((c : Thread nD τ).loc cc0_scratch0) ↦{fullShare} v : sProp 𝕄)) (View.write_whole_univ cc0_scratch0 f _)))
    iexact Hf
  isplitl [Hv]; · iexact Hv
  iexists _; iexact HO

/-! ## Remote copies -/

theorem rcv_amount (s : Fin 3) (b : Fin 4) : (comV s b).view.amount (.dma (rcvS s b)) = N := com_credit s b

/-- Row block `p`'s copy to the device after: it pays its own part of what is owed. -/
theorem run_send (c : Dev nD) (s : Fin 3) (b : Fin 4) (n : Dev nD) (hn : n = nxt c) :
    iprop(records m K ∗ ow c (4 * s.val + b.val) ∗ sndAt m s.val b c ∗ ready (s, b) c ∗ anyCom (s, b) (nxt c))
      ⊢ run c (sendP (F := F) n s b) fun _ => iprop(ow c (4 * s.val + b.val + 1) ∗ flying (s, b) c) := by
  subst hn
  unfold run sendP ow sndAt ready anyCom flying owns
  simp only [Prog.lift]
  iintro ⟨#HR, ⟨%W, HO⟩, ⟨%fs, %hfs, Hs⟩, ⟨HaS, HaR, HtS, HtR, HcR⟩, ⟨%fd, Hd⟩⟩
  iapply (Rounds.wp_send_pointsTo 𝒱₀ ER (sched m) (c : Thread nD τ) none (κ₁ := K (c, .inr (.inl (s, b)))) (κ₂ := K (nxt c, .inr (.inr (s, b))))
      (c' := (nxt c : Thread nD τ)) (sS := .dma (sndS s b)) (sem := .dma (rcvS s b)) (src := sndV b) (dst := comV s b) (q := fullShare) (fs := fs) (fd := fd) (r₁ := 0) (r₂ := 0) (d₁ := false) (d₂ := false)
      (by rw [duties_snd m c (s, b)]; exact Finset.mem_singleton_self _) (by rw [duties_rcv m (nxt c) (s, b)]; exact Finset.mem_singleton_self _)
      () () N (rcv_amount s b) (amount_snd m c (s, b) false) (amount_rcv m (nxt c) (s, b) false)
      (O₀ := owedFrom c (4 * s.val + b.val)) (owedFrom c (4 * s.val + b.val + 1)) (owed_step c (s, b)) (W := W)
      (by rw [payload_snd m c (s, b)]; unfold anySnd; iintro H; iexists fs; iexact H)
      (by
        rw [payload_rcv m (nxt c) (s, b)]; unfold comAt owns
        iintro H; iexists ((comV s b).view.write (Elt F) fd ((sndV b).view.read (Elt F) fs) Finset.univ); isplitr
        · ipureintro; rw [prv_nxt]; exact (View.read_write_univ (v := (comV s b).view) fd _).trans hfs
        iexact H)) $$ [HO Hs HtS HtR Hd]
  · isplitr; · iapply (inv_at m K (c, .inr (.inl (s, b)))); iexact HR
    isplitr; · iapply (inv_at m K (nxt c, .inr (.inr (s, b)))); iexact HR
    isplitl [Hs]; · iexact Hs
    isplitl [Hd]; · iexact Hd
    isplitl [HO]; · iexact HO
    isplitl [HtS]; · iexact HtS
    isplitr; · iapply (reached_at m K (c, .inr (.inl (s, b)))); iexact HR
    isplitl [HtR]; · iexact HtR
    iapply (reached_at m K (nxt c, .inr (.inr (s, b)))); iexact HR
  iintro ⟨HcS, HO⟩
  rw [wp_ret]; imodintro
  isplitl [HO]; · iexists W; iexact HO
  isplitl [HaS]; · iexact HaS
  isplitl [HaR]; · iexact HaR
  isplitl [HcS] <;> iassumption

/-- What the two waits ask of their cells. -/
theorem wait_rcv (c : Dev nD) (s : Fin 3) (b : Fin 4) (T : PUnit → sProp 𝕄) :
    wpE (defs₀ (F := F)) 𝒱₀ (c : Thread nD τ) none Set.univ (.waitDma2 (rcvS s b) (sndV b) (comV s b) (sndV_exact b) (comV_exact s b)) T
      = waitSpec (c : Thread nD τ) Set.univ (.dma (rcvS s b)) N T := by
  rw [← com_credit s b]; rfl
theorem wait_snd (c : Dev nD) (s : Fin 3) (b : Fin 4) (T : PUnit → sProp 𝕄) :
    wpE (defs₀ (F := F)) 𝒱₀ (c : Thread nD τ) none Set.univ (.waitDma2 (sndS s b) (comV s b) (sndV b) (comV_exact s b) (sndV_exact b)) T
      = waitSpec (c : Thread nD τ) Set.univ (.dma (sndS s b)) N T := by
  rw [← snd_credit b]; rfl

/-- The wait for the copy that comes in: the row block is there and its cell is closed. -/
theorem run_recvWait (c : Dev nD) (s : Fin 3) (b : Fin 4) (i : ℕ) (hi : 4 * (2 + s.val) ≤ i + 4) :
    iprop(records m K ∗ ow c i ∗ atPos ER (rcvCell (s, b) c) 0 ∅ 0 ∗ cred (tallyAt (rcvCell (s, b) c) () N))
      ⊢ run c (recvWaitP (F := F) s b) fun _ => iprop(ow c i ∗ semVal (rcvCell (s, b) c) 0 ∗ comAt m (s, b) c) := by
  unfold run recvWaitP ow
  simp only [Prog.lift]
  iintro ⟨#HR, ⟨%W, HO⟩, Hat, Hc⟩
  iapply (Rounds.wp_wait_rest_token 𝒱₀ ER (sched m) (c : Thread nD τ) none (sm := .dma (rcvS s b)) (k' := N) (κ := K (c, .inr (.inr (s, b))))
      (wait_rcv c s b) (Set.mem_univ _) () (O := owedFrom c i) (W := W) (R := 0) (m := 0) (T := ∅)
      (by rw [Nat.zero_add]; exact (expect_rcv m c (s, b)).symm)) $$ [Hc HO Hat]
  · isplitr; · iapply (inv_at m K (c, .inr (.inr (s, b)))); iexact HR
    isplitl [Hc]; · iexact Hc
    isplitl [HO]; · iexact HO
    isplitr; · iapply (mayWait_at m K c (.dma (rcvS s b)) i (by rw [role_csem (.inr (.inr (s, b)))]; exact hi)); iexact HR
    iexact Hat
  iintro ⟨HO, Hat, -, Hpay⟩
  ihave Hp := (Entails.of_eq (rest_rcv m c (s, b))) $$ Hpay
  imod (Rounds.cell_close ER (sched m) (Set.mem_univ (K (c, .inr (.inr (s, b))))) (fun h => h) (R := 0 + 1) (duties_later m (rcvCell (s, b) c))) $$ [Hat] with Hz
  · isplitr; · iapply (inv_at m K (c, .inr (.inr (s, b)))); iexact HR
    iexact Hat
  rw [wp_ret]; imodintro
  isplitl [HO]; · iexists _; iexact HO
  isplitl [Hz] <;> iassumption

/-- The wait for a copy's own completion: the outgoing row block is the device's again and its cell is closed. -/
theorem run_sendWait (c : Dev nD) (s : Fin 3) (b : Fin 4) (i : ℕ) :
    iprop(records m K ∗ ow c i ∗ atPos ER (sndCell (s, b) c) 0 ∅ 0 ∗ cred (tallyAt (sndCell (s, b) c) () N))
      ⊢ run c (sendWaitP (F := F) s b) fun _ => iprop(ow c i ∗ semVal (sndCell (s, b) c) 0 ∗ anySnd b c) := by
  unfold run sendWaitP ow
  simp only [Prog.lift]
  iintro ⟨#HR, ⟨%W, HO⟩, Hat, Hc⟩
  iapply (Rounds.wp_wait_rest_token 𝒱₀ ER (sched m) (c : Thread nD τ) none (sm := .dma (sndS s b)) (k' := N) (κ := K (c, .inr (.inl (s, b))))
      (wait_snd c s b) (Set.mem_univ _) () (O := owedFrom c i) (W := W) (R := 0) (m := 0) (T := ∅)
      (by rw [Nat.zero_add]; exact (expect_snd m c (s, b)).symm)) $$ [Hc HO Hat]
  · isplitr; · iapply (inv_at m K (c, .inr (.inl (s, b)))); iexact HR
    isplitl [Hc]; · iexact Hc
    isplitl [HO]; · iexact HO
    isplitr; · iapply (mayWait_at m K c (.dma (sndS s b)) i (by rw [role_csem (.inr (.inl (s, b)))]; exact Nat.zero_le _)); iexact HR
    iexact Hat
  iintro ⟨HO, Hat, -, Hpay⟩
  ihave Hp := (Entails.of_eq (rest_snd m c (s, b))) $$ Hpay
  imod (Rounds.cell_close ER (sched m) (Set.mem_univ (K (c, .inr (.inl (s, b))))) (fun h => h) (R := 0 + 1) (duties_later m (sndCell (s, b) c))) $$ [Hat] with Hz
  · isplitr; · iapply (inv_at m K (c, .inr (.inl (s, b)))); iexact HR
    iexact Hat
  rw [wp_ret]; imodintro
  isplitl [HO]; · iexists _; iexact HO
  isplitl [Hz] <;> iassumption

/-! ## The entry handshake -/

/-- What device `c` owes at the start, and once the device before has been signalled. -/
def owStart (c : Dev nD) : sProp 𝕄 := iprop(∃ W, owes (c : Thread nD τ) (O₀ c) W)
def owMid (c : Dev nD) : sProp 𝕄 := iprop(∃ W, owes (c : Thread nD τ) (O₁ c) W)

/-- The first signal, to the device before, hands it the incoming row blocks. -/
theorem run_signalL (c n : Dev nD) (hn : n = prv c) :
    iprop(records m K ∗ owStart c ∗ dutyTok ER (barCell (prv c)) 0 true ∗ bigSep Finset.univ fun p : Blk => anyCom p c)
      ⊢ run c (signalP (F := F) n) fun _ => owMid c := by
  subst hn
  unfold run signalP owStart owMid
  simp only [semSignalWord, Prog.lift]
  iintro ⟨#HR, ⟨%W, HO⟩, Ht, Hcom⟩
  iapply (Rounds.wp_signal 𝒱₀ ER (sched m) (c : Thread nD τ) none (dst := (prv c : Thread nD τ)) (κ := K (prv c, .inl ()))
      (d := true) (by rw [duties_bar]; exact Finset.mem_univ _) ((amount_bar m (prv c) true).trans (by decide)) () (O₁ c) rfl) $$ [HO Ht Hcom]
  · isplitr; · iapply (inv_at m K (prv c, .inl ())); iexact HR
    isplitl [HO]; · iexact HO
    isplitl [Ht]; · iexact Ht
    isplitl [Hcom]; · rw [payload_bar_true]; unfold barPay; rw [nxt_prv]; iexact Hcom
    iapply (reached_at m K (prv c, .inl ())); iexact HR
  iintro HO
  rw [wp_ret]; imodintro
  iexists W; iexact HO

/-- The second, to the device after, hands it nothing. -/
theorem run_signalR (c n : Dev nD) (hn : n = nxt c) :
    iprop(records m K ∗ owMid c ∗ dutyTok ER (barCell (nxt c)) 0 false) ⊢ run c (signalP (F := F) n) fun _ => ow c 0 := by
  subst hn
  unfold run signalP owMid ow
  simp only [semSignalWord, Prog.lift]
  iintro ⟨#HR, ⟨%W, HO⟩, Ht⟩
  iapply (Rounds.wp_signal 𝒱₀ ER (sched m) (c : Thread nD τ) none (dst := (nxt c : Thread nD τ)) (κ := K (nxt c, .inl ()))
      (d := false) (by rw [duties_bar]; exact Finset.mem_univ _) ((amount_bar m (nxt c) false).trans (by decide)) () (owedFrom c 0) rfl) $$ [HO Ht]
  · isplitr; · iapply (inv_at m K (nxt c, .inl ())); iexact HR
    isplitl [HO]; · iexact HO
    isplitl [Ht]; · iexact Ht
    isplitr; · rw [payload_bar_false]; iempintro
    iapply (reached_at m K (nxt c, .inl ())); iexact HR
  iintro HO
  rw [wp_ret]; imodintro
  iexists W; iexact HO

/-- The wait for both neighbours: the incoming row blocks of the device after come with it. -/
theorem run_barWait (c : Dev nD) :
    iprop(records m K ∗ ow c 0 ∗ atPos ER (barCell c) 0 ∅ 0 ∗ cred (tallyAt (barCell c) () 2))
      ⊢ run c (barWaitP (F := F)) fun _ => iprop(ow c 0 ∗ semVal (barCell c) 0 ∗ barPay c) := by
  unfold run barWaitP ow
  simp only [semWaitWord, Prog.lift]
  iintro ⟨#HR, ⟨%W, HO⟩, Hat, Hc⟩
  iapply (Rounds.wp_wait_rest_token 𝒱₀ ER (sched m) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_at m K c (.reg barS) 0 (by rw [role_csem (.inl ())]; exact le_rfl)); iexact HR
    iexact Hat
  iintro ⟨HO, Hat, -, Hpay⟩
  ihave Hp := (Entails.of_eq (rest_bar m c)) $$ Hpay
  icases Hp with ⟨-, Hp⟩
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  rw [wp_ret]; imodintro
  isplitl [HO]; · iexists _; iexact HO
  isplitl [Hz] <;> iassumption

/-! ## Loads and stores -/

/-- A row block of the chunk buffer, loaded. -/
theorem run_loadRow {α : Type} {Q : α → sProp 𝕄} (c : Dev nD) (b : Fin 4) (v : Vec F S4096x1024 .f32) (k : Vec F S1024x1024 .f32 → KProg (F := F) α) :
    iprop(fPts c v ∗ (fPts c v -∗ run c (k (rowsOf b v)) Q)) ⊢ run c (loadRowP b >>= k) Q := by
  unfold run loadRowP fPts
  simp only [Prog.lift, Prog.bind_op, Prog.bind_ret]
  iintro ⟨Hf, Hk⟩
  iapply (wp_load 𝒱₀ (c : Thread nD τ) none Set.univ (m := fM) (r := (rowR b).toLoadRect) (S := Finset.univ) (q := fullShare) (f := v)
    (Finset.subset_univ _)) $$ Hf
  iexact Hk

/-- An incoming row block, loaded. -/
theorem run_loadCom {α : Type} {Q : α → sProp 𝕄} (c : Dev nD) (s : Fin 3) (b : Fin 4) (k : Vec F S1x1x1024x1024 .bf16 → KProg (F := F) α) :
    iprop(comAt m (s, b) c ∗ (∀ w, ⌜ofSlot w = sent m s.val b (prv c)⌝ -∗ comAt m (s, b) c -∗ run c (k w) Q)) ⊢ run c (loadComP s b >>= k) Q := by
  unfold run loadComP comAt owns
  simp only [Prog.lift, Prog.bind_op, Prog.bind_ret]
  iintro ⟨⟨%f, %hf, Hf⟩, Hk⟩
  iapply (wp_load 𝒱₀ (c : Thread nD τ) none Set.univ (m := cM) (r := (comR s b).toLoadRect) (S := (comV s b).view.set) (q := fullShare) (f := f)
    (by rw [set_com, View.set_slice]; exact Finset.Subset.refl _)) $$ Hf
  iintro Hf
  iapply Hk $$ []
  · ipureintro; exact (read_com (F := F) b s f).trans hf
  iexists f; isplitr; · ipureintro; exact hf
  iexact Hf

/-- An outgoing row block, stored. -/
theorem run_put (c : Dev nD) (b : Fin 4) (v : FVec F S1024x1024 .bf16) :
    anySnd b c ⊢ run c (putP b (toSlot v)) fun _ => owns (c : Thread nD τ) (sndV b) fullShare v := by
  unfold run putP anySnd owns
  simp only [Prog.lift, Prog.bind_op, Prog.bind_ret]
  iintro ⟨%f, Hf⟩
  iapply (wp_load 𝒱₀ (c : Thread nD τ) none Set.univ (m := sM) (r := (sndR b).toLoadRect) (S := (sndV b).view.set) (q := fullShare) (f := f)
    (by rw [set_snd, View.set_slice]; exact Finset.Subset.refl _)) $$ Hf
  iintro Hf
  iapply (wp_store 𝒱₀ (c : Thread nD τ) none Set.univ (m := sM) (r := sndR b) (Mk := Finset.univ) (S := (sndV b).view.set) (f := f)
    (by rw [set_snd]; exact Finset.Subset.refl _)) $$ Hf
  iintro Hf
  rw [wp_ret]; imodintro
  iexists ((sM.access (sndR b)).write (Elt F) f (toSlot v) Finset.univ)
  isplitr; · ipureintro; exact read_stored b f v
  iexact Hf

/-- A row block of the result, stored. -/
theorem run_out (c : Dev nD) (b : Fin 4) (v : FVec F S1024x1024 .bf16) :
    anyOut b c ⊢ run c (outP b v) fun _ => owns (c : Thread nD τ) (oM.slice (rowR b) fun _ => rfl) fullShare v := by
  unfold run outP anyOut owns
  simp only [Prog.lift, Prog.bind_op, Prog.bind_ret]
  iintro ⟨%f, Hf⟩
  iapply (wp_load 𝒱₀ (c : Thread nD τ) none Set.univ (m := oM) (r := (rowR b).toLoadRect) (S := (oM.view.slice (rowR b)).set) (q := fullShare) (f := f)
    (by rw [View.set_slice]; exact Finset.Subset.refl _)) $$ Hf
  iintro Hf
  iapply (wp_store 𝒱₀ (c : Thread nD τ) none Set.univ (m := oM) (r := rowR b) (Mk := Finset.univ) (S := (oM.view.slice (rowR b)).set) (f := f)
    (Finset.Subset.refl _)) $$ Hf
  iintro Hf
  rw [wp_ret]; imodintro
  iexists ((oM.view.slice (rowR b)).write (Elt F) f v Finset.univ)
  isplitr; · ipureintro; exact View.read_write_univ (v := oM.view.slice (rowR b)) f v
  iexact Hf

end Cert.KernelIdeal.Proof

end
-- ==== Proof.KernelIdeal.Rows.lean ====
/-
  One row block's part of each step, and the four row blocks of a step in order.
-/
module

public import proofs.«01_k».proof.Proof.KernelIdeal.Moves

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles

variable {F : FTy → Type} [FloatOps F]

local notation "𝕄" => MT nD τ sig Unit (Elt F) ℕ UU ℕ

variable (m : (ℓ : Loc nD τ sig) → Buf (Elt F) ℓ)

variable (K : Dev nD × CI → ℕ)

/-- A piece at the end of a program. -/
theorem run_last {c : Dev nD} {α : Type} {p : KProg (F := F) α} {P : sProp 𝕄} {Q R : α → sProp 𝕄}
    (h : P ⊢ run c p Q) : iprop(P ∗ (∀ a, Q a -∗ R a)) ⊢ run c p R := by
  unfold run
  exact (sep_mono_left h).trans (wp_wand_r frame _ _)

/-- The four row blocks in order: what runs along (`I`, by the number of blocks done) and what each block takes and gives. -/
theorem run_rows (c : Dev nD) (p : Fin 4 → KProg (F := F) PUnit) (I : ℕ → sProp 𝕄) (A B : Fin 4 → sProp 𝕄)
    (h : ∀ b : Fin 4, iprop(I b.val ∗ A b) ⊢ run c (p b) fun _ => iprop(I (b.val + 1) ∗ B b)) :
    iprop(I 0 ∗ bigSep Finset.univ A) ⊢ run c (rowsP p) fun _ => iprop(I 4 ∗ bigSep Finset.univ B) := by
  have four : ∀ X : Fin 4 → sProp 𝕄, bigSep Finset.univ X = iprop(X 0 ∗ X 1 ∗ X 2 ∗ X 3) := fun X => by
    rw [bigSep_univ_eq_bigSepL [0, 1, 2, 3] (by decide) (by decide)]
    simp only [bigSepL_cons_cons, bigSepL_singleton]
    rfl
  have h0 : iprop(I 0 ∗ A 0) ⊢ run c (p 0) fun _ => iprop(I 1 ∗ B 0) := h 0
  have h1 : iprop(I 1 ∗ A 1) ⊢ run c (p 1) fun _ => iprop(I 2 ∗ B 1) := h 1
  have h2 : iprop(I 2 ∗ A 2) ⊢ run c (p 2) fun _ => iprop(I 3 ∗ B 2) := h 2
  have h3 : iprop(I 3 ∗ A 3) ⊢ run c (p 3) fun _ => iprop(I 4 ∗ B 3) := h 3
  rw [four, four]
  unfold rowsP
  iintro ⟨HI, H0, H1, H2, H3⟩
  iapply (run_then h0)
  isplitl [HI H0]; · isplitl [HI] <;> iassumption
  iintro %u ⟨HI, H0⟩
  iapply (run_then h1)
  isplitl [HI H1]; · isplitl [HI] <;> iassumption
  iintro %u ⟨HI, H1⟩
  iapply (run_then h2)
  isplitl [HI H2]; · isplitl [HI] <;> iassumption
  iintro %u ⟨HI, H2⟩
  iapply (run_last h3)
  isplitl [HI H3]; · isplitl [HI] <;> iassumption
  iintro %u ⟨HI, H3⟩
  isplitl [HI]; · iexact HI
  isplitl [H0]; · iexact H0
  isplitl [H1]; · iexact H1
  isplitl [H2] <;> iassumption

/-- Row block `b` prepared for the first step. -/
theorem run_init (c : Dev nD) (b : Fin 4) :
    iprop(fPts c (stg m 0 c) ∗ anySnd b c) ⊢ run c (initP (F := F) b) fun _ => iprop(fPts c (stg m 0 c) ∗ sndAt m 0 b c) := by
  unfold initP
  iintro ⟨Hf, Hs⟩
  iapply (run_loadRow c b (stg m 0 c))
  isplitl [Hf]; · iexact Hf
  iintro Hf
  iapply (run_last (run_put c b (firstRow (rowsOf b (stg m 0 c)))))
  isplitl [Hs]; · iexact Hs
  iintro %u Hs
  isplitl [Hf]; · iexact Hf
  unfold sndAt; iexact Hs

/-- Row block `b` of step `s + 1`: what the step before brought is added to it and it is sent on. -/
theorem run_iter (c : Dev nD) (s : Fin 2) (b : Fin 4) (n : Dev nD) (hn : n = nxt c) :
    iprop((records m K ∗ ow c (4 * (s.val + 1) + b.val) ∗ fPts c (stg m (s.val + 1) c))
        ∗ (flying (s.castSucc, b) c ∗ ready (s.succ, b) c ∗ anyCom (s.succ, b) (nxt c)))
      ⊢ run c (iterP (F := F) s b n) fun _ => iprop((records m K ∗ ow c (4 * (s.val + 1) + (b.val + 1)) ∗ fPts c (stg m (s.val + 1) c))
        ∗ (landed m (s.castSucc, b) c ∗ flying (s.succ, b) c)) := by
  unfold iterP flying landed
  iintro ⟨⟨#HR, HO, Hf⟩, ⟨HaS, HaR, HcS, HcR⟩, Hrdy, Hcom⟩
  iapply (run_then (run_recvWait m K c s.castSucc b (4 * (s.val + 1) + b.val) (by simp only [Fin.val_castSucc]; omega)))
  isplitl [HO HaR HcR]
  · isplitr; · iexact HR
    isplitl [HO]; · iexact HO
    isplitl [HaR] <;> iassumption
  iintro %u1 ⟨HO, HzR, HC⟩
  iapply (run_then (run_sendWait m K c s.castSucc b (4 * (s.val + 1) + b.val)))
  isplitl [HO HaS HcS]
  · isplitr; · iexact HR
    isplitl [HO]; · iexact HO
    isplitl [HaS] <;> iassumption
  iintro %u2 ⟨HO, HzS, HS⟩
  iapply (run_loadRow c b (stg m (s.val + 1) c))
  isplitl [Hf]; · iexact Hf
  iintro Hf
  iapply (run_loadCom m c s.castSucc b)
  isplitl [HC]; · iexact HC
  iintro %w %hw HC
  rw [hw]
  iapply (run_then (run_put c b (nextRow (rowsOf b (stg m (s.val + 1) c)) (sent m s.castSucc.val b (prv c)))))
  isplitl [HS]; · iexact HS
  iintro %u3 HS
  iapply (run_last (run_send m K c s.succ b n hn))
  isplitl [HO HS Hrdy Hcom]
  · isplitr; · iexact HR
    isplitl [HO]; · iexact HO
    isplitl [HS]; · unfold sndAt; iexact HS
    isplitl [Hrdy] <;> iassumption
  iintro %u4 ⟨HO, Hfl⟩
  isplitl [HO Hf]
  · isplitr; · iexact HR
    isplitl [HO]; · iexact HO
    iexact Hf
  isplitl [HzS HzR HC]
  · isplitl [HzS]; · iexact HzS
    isplitl [HzR] <;> iassumption
  unfold flying; iexact Hfl

/-- Row block `b` of the last step: what came in is added to it and it is stored as the result's. -/
theorem run_lastRow (c : Dev nD) (b : Fin 4) :
    iprop((records m K ∗ ow c 12 ∗ fPts c (stg m 3 c)) ∗ (flying (2, b) c ∗ anyOut b c))
      ⊢ run c (lastP (F := F) b) fun _ => iprop((records m K ∗ ow c 12 ∗ fPts c (stg m 3 c))
        ∗ (landed m (2, b) c ∗ anySnd b c ∗ outAt m b c)) := by
  unfold lastP flying landed
  iintro ⟨⟨#HR, HO, Hf⟩, ⟨HaS, HaR, HcS, HcR⟩, Hout⟩
  iapply (run_then (run_recvWait m K c 2 b 12 (by decide)))
  isplitl [HO HaR HcR]
  · isplitr; · iexact HR
    isplitl [HO]; · iexact HO
    isplitl [HaR] <;> iassumption
  iintro %u1 ⟨HO, HzR, HC⟩
  iapply (run_loadRow c b (stg m 3 c))
  isplitl [Hf]; · iexact Hf
  iintro Hf
  iapply (run_loadCom m c 2 b)
  isplitl [HC]; · iexact HC
  iintro %w %hw HC
  rw [hw]
  iapply (run_then (run_out c b (nextRow (rowsOf b (stg m 3 c)) (sent m (2 : Fin 3).val b (prv c)))))
  isplitl [Hout]; · iexact Hout
  iintro %u3 Hout
  iapply (run_last (run_sendWait m K c 2 b 12))
  isplitl [HO HaS HcS]
  · isplitr; · iexact HR
    isplitl [HO]; · iexact HO
    isplitl [HaS] <;> iassumption
  iintro %u2 ⟨HO, HzS, HS⟩
  isplitl [HO Hf]
  · isplitr; · iexact HR
    isplitl [HO]; · iexact HO
    iexact Hf
  isplitl [HzS HzR HC]
  · isplitl [HzS]; · iexact HzS
    isplitl [HzR] <;> iassumption
  isplitl [HS]; · iexact HS
  unfold outAt; iexact Hout

/-! ## The steps -/

/-- The four row blocks prepared; -/
theorem rows_init (c : Dev nD) :
    iprop(fPts c (stg m 0 c) ∗ bigSep Finset.univ fun b => anySnd b c)
      ⊢ run c (rowsP (initP (F := F))) fun _ => iprop(fPts c (stg m 0 c) ∗ bigSep Finset.univ fun b => sndAt m 0 b c) :=
  run_rows c initP (fun _ => fPts c (stg m 0 c)) _ _ fun b => run_init m c b

/-- their first copies; -/
theorem rows_send (c : Dev nD) (dst : Fin 4 → Dev nD) (hd : ∀ b, dst b = nxt c) :
    iprop((records m K ∗ ow c 0) ∗ bigSep Finset.univ fun b : Fin 4 => iprop(sndAt m 0 b c ∗ ready (0, b) c ∗ anyCom (0, b) (nxt c)))
      ⊢ run c (rowsP fun b => sendP (F := F) (dst b) 0 b) fun _ =>
        iprop((records m K ∗ ow c 4) ∗ bigSep Finset.univ fun b : Fin 4 => flying (0, b) c) := by
  refine run_rows c (fun b => sendP (F := F) (dst b) 0 b) (fun i => iprop(records m K ∗ ow c i)) _ _ fun b => ?_
  have h := run_send m K c 0 b (dst b) (hd b)
  rw [show 4 * (0 : Fin 3).val + b.val = b.val from Nat.zero_add _] at h
  iintro ⟨⟨#HR, HO⟩, HS, Hr, HC⟩
  iapply (run_last h)
  isplitl
  · isplitr; · iexact HR
    isplitl [HO]; · iexact HO
    isplitl [HS]; · iexact HS
    isplitl [Hr] <;> iassumption
  iintro %u ⟨HO, Hf⟩
  isplitl [HO]
  · isplitr; · iexact HR
    iexact HO
  iexact Hf

/-- a step of the ring; -/
theorem rows_iter (c : Dev nD) (s : Fin 2) (dst : Fin 4 → Dev nD) (hd : ∀ b, dst b = nxt c) :
    iprop((records m K ∗ ow c (4 * (s.val + 1)) ∗ fPts c (stg m (s.val + 1) c))
        ∗ bigSep Finset.univ fun b : Fin 4 => iprop(flying (s.castSucc, b) c ∗ ready (s.succ, b) c ∗ anyCom (s.succ, b) (nxt c)))
      ⊢ run c (rowsP fun b => iterP (F := F) s b (dst b)) fun _ =>
        iprop((records m K ∗ ow c (4 * (s.val + 1) + 4) ∗ fPts c (stg m (s.val + 1) c))
          ∗ bigSep Finset.univ fun b : Fin 4 => iprop(landed m (s.castSucc, b) c ∗ flying (s.succ, b) c)) :=
  run_rows c (fun b => iterP (F := F) s b (dst b)) (fun i => iprop(records m K ∗ ow c (4 * (s.val + 1) + i) ∗ fPts c (stg m (s.val + 1) c))) _ _
    fun b => run_iter m K c s b (dst b) (hd b)

theorem rows_iter0 (c : Dev nD) (dst : Fin 4 → Dev nD) (hd : ∀ b, dst b = nxt c) :
    iprop((records m K ∗ ow c 4 ∗ fPts c (stg m 1 c))
        ∗ bigSep Finset.univ fun b : Fin 4 => iprop(flying (0, b) c ∗ ready (1, b) c ∗ anyCom (1, b) (nxt c)))
      ⊢ run c (rowsP fun b => iterP (F := F) 0 b (dst b)) fun _ =>
        iprop((records m K ∗ ow c 8 ∗ fPts c (stg m 1 c)) ∗ bigSep Finset.univ fun b : Fin 4 => iprop(landed m (0, b) c ∗ flying (1, b) c)) :=
  rows_iter m K c 0 dst hd
theorem rows_iter1 (c : Dev nD) (dst : Fin 4 → Dev nD) (hd : ∀ b, dst b = nxt c) :
    iprop((records m K ∗ ow c 8 ∗ fPts c (stg m 2 c))
        ∗ bigSep Finset.univ fun b : Fin 4 => iprop(flying (1, b) c ∗ ready (2, b) c ∗ anyCom (2, b) (nxt c)))
      ⊢ run c (rowsP fun b => iterP (F := F) 1 b (dst b)) fun _ =>
        iprop((records m K ∗ ow c 12 ∗ fPts c (stg m 2 c)) ∗ bigSep Finset.univ fun b : Fin 4 => iprop(landed m (1, b) c ∗ flying (2, b) c)) :=
  rows_iter m K c 1 dst hd

/-- and the last. -/
theorem rows_last (c : Dev nD) :
    iprop((records m K ∗ ow c 12 ∗ fPts c (stg m 3 c)) ∗ bigSep Finset.univ fun b : Fin 4 => iprop(flying (2, b) c ∗ anyOut b c))
      ⊢ run c (rowsP (lastP (F := F))) fun _ => iprop((records m K ∗ ow c 12 ∗ fPts c (stg m 3 c))
        ∗ bigSep Finset.univ fun b : Fin 4 => iprop(landed m (2, b) c ∗ anySnd b c ∗ outAt m b c)) :=
  run_rows c lastP (fun _ => iprop(records m K ∗ ow c 12 ∗ fPts c (stg m 3 c))) _ _ fun b => run_lastRow m K c b

end Cert.KernelIdeal.Proof

end
-- ==== Proof.KernelIdeal.Body.lean ====
/-
  The body on one device: from what a device holds at the start of the call, the pieces in order, to what it holds at
  the end.
-/
module

public import proofs.«01_k».proof.Proof.KernelIdeal.Rows

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles

variable {F : FTy → Type} [FloatOps F]

local notation "𝕄" => MT nD τ sig Unit (Elt F) ℕ UU ℕ

variable (m : (ℓ : Loc nD τ sig) → Buf (Elt F) ℓ) (ρ : Dev nD → PrngReg)

/-! ## The row blocks tile their buffers -/

theorem row_tiling : Tiling rowR where
  cover i := by
    have h0 : (i 0).val < 4096 := (i 0).isLt
    have h1 : (i 1).val < 1024 := (i 1).isLt
    refine ⟨⟨(i 0).val / 1024, by omega⟩, LoadRect.exists_idx_of_mem _ (Rect.mem_set_unit.mpr fun a => ?_)⟩
    fin_cases a
    · show 1024 * ((i 0).val / 1024) ≤ (i 0).val ∧ (i 0).val < 1024 * ((i 0).val / 1024) + 1024; omega
    · show 0 ≤ (i 1).val ∧ (i 1).val < 0 + 1024; omega
  apart b b' j j' e := by
    have h : 1024 * b.val + 1 * (j 0).val = 1024 * b'.val + 1 * (j' 0).val := congrArg Fin.val (congrFun e 0)
    have h0 : (j 0).val < 1024 := (j 0).isLt
    have h0' : (j' 0).val < 1024 := (j' 0).isLt
    exact Fin.ext (by omega)
  unit _ _ := rfl

theorem snd_tiling : Tiling sndR where
  cover i := by
    have h0 : (i 0).val < 4 := (i 0).isLt
    have h1 : (i 1).val < 1024 := (i 1).isLt
    have h2 : (i 2).val < 1024 := (i 2).isLt
    refine ⟨⟨(i 0).val, h0⟩, LoadRect.exists_idx_of_mem _ (Rect.mem_set_unit.mpr fun a => ?_)⟩
    fin_cases a
    · show (i 0).val ≤ (i 0).val ∧ (i 0).val < (i 0).val + 1; omega
    · show 0 ≤ (i 1).val ∧ (i 1).val < 0 + 1024; omega
    · show 0 ≤ (i 2).val ∧ (i 2).val < 0 + 1024; omega
  apart b b' j j' e := by
    have h : b.val + 1 * (j 0).val = b'.val + 1 * (j' 0).val := congrArg Fin.val (congrFun e 0)
    have h0 : (j 0).val < 1 := (j 0).isLt
    have h0' : (j' 0).val < 1 := (j' 0).isLt
    exact Fin.ext (by omega)
  unit _ _ := rfl

theorem com_tiling : Tiling fun p : Blk => comR p.1 p.2 where
  cover i := by
    have h0 : (i 0).val < 3 := (i 0).isLt
    have h1 : (i 1).val < 4 := (i 1).isLt
    have h2 : (i 2).val < 1024 := (i 2).isLt
    have h3 : (i 3).val < 1024 := (i 3).isLt
    refine ⟨(⟨(i 0).val, h0⟩, ⟨(i 1).val, h1⟩), LoadRect.exists_idx_of_mem _ (Rect.mem_set_unit.mpr fun a => ?_)⟩
    fin_cases a
    · show (i 0).val ≤ (i 0).val ∧ (i 0).val < (i 0).val + 1; omega
    · show (i 1).val ≤ (i 1).val ∧ (i 1).val < (i 1).val + 1; omega
    · show 0 ≤ (i 2).val ∧ (i 2).val < 0 + 1024; omega
    · show 0 ≤ (i 3).val ∧ (i 3).val < 0 + 1024; omega
  apart p p' j j' e := by
    have h : p.1.val + 1 * (j 0).val = p'.1.val + 1 * (j' 0).val := congrArg Fin.val (congrFun e 0)
    have g : p.2.val + 1 * (j 1).val = p'.2.val + 1 * (j' 1).val := congrArg Fin.val (congrFun e 1)
    have h0 : (j 0).val < 1 := (j 0).isLt
    have h0' : (j' 0).val < 1 := (j' 0).isLt
    have h1 : (j 1).val < 1 := (j 1).isLt
    have h1' : (j' 1).val < 1 := (j' 1).isLt
    exact Prod.ext (Fin.ext (by omega)) (Fin.ext (by omega))
  unit _ _ := rfl

/-- A device's result: row block `b` of it is what the device would send at step 3. -/
def outVal (c : Dev nD) : Vec F S4096x1024 .bf16 := glue (α := Elt F .bf16) row_tiling fun b => sent m 3 b c

/-! ## Buffers cut into row blocks, and put together again -/

abbrev anyF (c : Dev nD) : sProp 𝕄 := iprop(∃ f : Buf (Elt F) ((c : Thread nD τ).loc cc0_scratch0), ((c : Thread nD τ).loc cc0_scratch0) ↦{fullShare} f)
abbrev anyS (c : Dev nD) : sProp 𝕄 := iprop(∃ f : Buf (Elt F) ((c : Thread nD τ).loc cc0_scratch1), ((c : Thread nD τ).loc cc0_scratch1) ↦{fullShare} f)
abbrev anyC (c : Dev nD) : sProp 𝕄 := iprop(∃ f : Buf (Elt F) ((c : Thread nD τ).loc cc0_scratch2), ((c : Thread nD τ).loc cc0_scratch2) ↦{fullShare} f)

omit [FloatOps F] in
theorem anySnd_eq (b : Fin 4) (c : Dev nD) :
    (anySnd b c : sProp 𝕄) = iprop(∃ f, sM.view.loc (c : Thread nD τ) ↦[(sM.view.slice (sndR b)).set]{fullShare} f) := by
  unfold anySnd; rw [set_snd]
omit [FloatOps F] in
theorem anyCom_eq (p : Blk) (c : Dev nD) :
    (anyCom p c : sProp 𝕄) = iprop(∃ f, cM.view.loc (c : Thread nD τ) ↦[(cM.view.slice (comR p.1 p.2)).set]{fullShare} f) := by
  unfold anyCom; rw [set_com]

omit [FloatOps F] in
theorem whole_pts (c : Dev nD) (b : Ref sig .tc) (f : Buf (Elt F) ((c : Thread nD τ).loc b)) :
    ((Memref.whole b).view.loc (c : Thread nD τ) ↦[(Memref.whole b).view.set]{fullShare} f : sProp 𝕄)
      = (((c : Thread nD τ).loc b) ↦{fullShare} f) := by
  simp only [Memref.view_whole, View.set_whole]

omit [FloatOps F] in
theorem split_snd (c : Dev nD) : anyS c ⊢ (bigSep Finset.univ fun b => anySnd b c : sProp 𝕄) := by
  rw [bigSep_congr fun b _ => anySnd_eq b c]
  iintro ⟨%f, H⟩
  iapply (split_any (c : Thread nD τ) sM snd_tiling f)
  iapply (Entails.of_eq (whole_pts c _ f).symm); iexact H
omit [FloatOps F] in
theorem split_com (c : Dev nD) : anyC c ⊢ (bigSep Finset.univ fun p : Blk => anyCom p c : sProp 𝕄) := by
  rw [bigSep_congr fun p _ => anyCom_eq p c]
  iintro ⟨%f, H⟩
  iapply (split_any (c : Thread nD τ) cM com_tiling f)
  iapply (Entails.of_eq (whole_pts c _ f).symm); iexact H
omit [FloatOps F] in
theorem split_out (c : Dev nD) (f : Buf (Elt F) ((c : Thread nD τ).loc cc0_stg0_0)) :
    (((c : Thread nD τ).loc cc0_stg0_0) ↦{fullShare} f) ⊢ (bigSep Finset.univ fun b => anyOut b c : sProp 𝕄) := by
  unfold anyOut
  iintro H
  iapply (split_any (c : Thread nD τ) oM row_tiling f)
  iapply (Entails.of_eq (whole_pts c _ f).symm); iexact H

theorem join_snd (c : Dev nD) : (bigSep Finset.univ fun b => anySnd b c : sProp 𝕄) ⊢ anyS c := by
  rw [bigSep_congr fun b _ => anySnd_eq b c]
  refine (join_any (c : Thread nD τ) sM snd_tiling).trans ?_
  iintro ⟨%f, H⟩; iexists f
  iapply (Entails.of_eq (whole_pts c _ f)); iexact H
theorem join_com (c : Dev nD) : (bigSep Finset.univ fun p : Blk => comAt m p c : sProp 𝕄) ⊢ anyC c := by
  refine (bigSep_mono (Ψ := fun p : Blk => anyCom p c) fun p _ => ?_).trans ?_
  · show comAt m p c ⊢ anyCom p c
    unfold comAt owns anyCom
    iintro ⟨%f, -, H⟩; iexists f; iexact H
  rw [bigSep_congr fun p _ => anyCom_eq p c]
  refine (join_any (c : Thread nD τ) cM com_tiling).trans ?_
  iintro ⟨%f, H⟩; iexists f
  iapply (Entails.of_eq (whole_pts c _ f)); iexact H
theorem join_out (c : Dev nD) :
    (bigSep Finset.univ fun b => outAt m b c : sProp 𝕄) ⊢ (((c : Thread nD τ).loc cc0_stg0_0) ↦{fullShare} outVal m c) := by
  unfold outAt
  refine (join_glue (Val := Elt F) (e := .bf16) (c : Thread nD τ) oM row_tiling fun b => sent m 3 b c).trans ?_
  exact Entails.of_eq (owns_whole (c : Thread nD τ) cc0_stg0_0 fullShare (outVal m c))

/-! ## What is held at the start and at the end of the call -/

/-- A device's own: its place at its barrier and the tokens of its two signals, its copies before they start, the
    credit of the handshake, the local copies' semaphore, the argument. -/
def hand (c : Dev nD) : sProp 𝕄 :=
  iprop(atPos ER (barCell c) 0 ∅ 0 ∗ dutyTok ER (barCell (prv c)) 0 true ∗ dutyTok ER (barCell (nxt c)) 0 false
    ∗ (bigSep Finset.univ fun p : Blk => ready p c) ∗ cred (tallyAt (barCell c) () 2) ∗ semVal (cpyCell c) 0 ∗ argPts m c)
def start (c : Dev nD) : sProp 𝕄 := iprop((∃ K, records m K) ∗ hand m c)

def Φ₀ (c : Dev nD) : sProp 𝕄 := iprop(start m c ∗ anyF c ∗ anyS c ∗ anyC c)
/-- At the end every cell is closed, its counter at zero. -/
def zeros (c : Dev nD) : sProp 𝕄 :=
  iprop(semVal (barCell c) 0 ∗ semVal (cpyCell c) 0 ∗ bigSep Finset.univ fun p : Blk => iprop(semVal (sndCell p c) 0 ∗ semVal (rcvCell p c) 0))
def Φ₁ (c : Dev nD) : sProp 𝕄 := iprop(argPts m c ∗ anyF c ∗ anyS c ∗ anyC c ∗ zeros c)

omit [FloatOps F] in
theorem by_step (X : Blk → sProp 𝕄) : bigSep Finset.univ X
    = iprop((bigSep Finset.univ fun b => X (0, b)) ∗ (bigSep Finset.univ fun b => X (1, b)) ∗ bigSep Finset.univ fun b => X (2, b)) := by
  rw [bigSep_univ_prod, bigSep_univ_eq_bigSepL [0, 1, 2] (by decide) (by decide)]
  simp only [bigSepL_cons_cons, bigSepL_singleton]
  rfl

theorem landed_split (c : Dev nD) : (bigSep Finset.univ fun p : Blk => landed m p c)
    ⊢ iprop((bigSep Finset.univ fun p : Blk => iprop(semVal (sndCell p c) 0 ∗ semVal (rcvCell p c) 0)) ∗ bigSep Finset.univ fun p : Blk => comAt m p c) := by
  rw [← bigSep_sep']
  refine bigSep_mono fun p _ => ?_
  show landed m p c ⊢ iprop((semVal (sndCell p c) 0 ∗ semVal (rcvCell p c) 0) ∗ comAt m p c)
  unfold landed
  iintro ⟨H1, H2, H3⟩
  isplitl [H1 H2]; · isplitl [H1] <;> iassumption
  iexact H3

variable (K : Dev nD × CI → ℕ)

def bodyPre (c : Dev nD) : sProp 𝕄 :=
  iprop(records m K ∗ hand m c ∗ anyF c ∗ anyS c ∗ anyC c ∗ owStart c
    ∗ ∃ f : Buf (Elt F) ((c : Thread nD τ).loc cc0_stg0_0), ((c : Thread nD τ).loc cc0_stg0_0) ↦{fullShare} f)
def bodyPost (c : Dev nD) : sProp 𝕄 :=
  iprop(Φ₁ m c ∗ (∃ W, owes (c : Thread nD τ) 0 W) ∗ (((c : Thread nD τ).loc cc0_stg0_0) ↦{fullShare} outVal m c))

/-- The body, from one to the other. -/
theorem run_body (c : Dev nD) : bodyPre m K c ⊢ run c (bodyP (F := F) c) fun _ => bodyPost m c := by
  unfold bodyPre hand bodyP
  iintro ⟨#HR, ⟨HaB, HtP, HtN, Hrdy, HcB, Hv, Hx⟩, HF, HS, HC, HO, ⟨%fo, Hout⟩⟩
  ihave HS := (split_snd (F := F) c) $$ HS
  ihave HC := (split_com (F := F) c) $$ HC
  ihave Hout := (split_out (F := F) c fo) $$ Hout
  ihave Hrdy := (Entails.of_eq (by_step fun p => ready p c)) $$ Hrdy
  icases Hrdy with ⟨Hr0, Hr1, Hr2⟩
  -- the signals
  iapply (run_then (run_signalL m K c _ (left_eq c)))
  isplitl [HO HtP HC]
  · isplitr; · iexact HR
    isplitl [HO]; · iexact HO
    isplitl [HtP] <;> iassumption
  iintro %u1 HO
  iapply (run_then (run_signalR m K c _ (right_eq c)))
  isplitl [HO HtN]
  · isplitr; · iexact HR
    isplitl [HO] <;> iassumption
  iintro %u2 HO
  -- the first chunk, prepared
  iapply (run_then (run_copy m K c 0 0 _ _ (off0_eq c)))
  isplitl [HO Hx HF Hv]
  · isplitr; · iexact HR
    isplitl [Hx]; · iexact Hx
    isplitl [HF]; · unfold fPts; iexact HF
    isplitl [Hv] <;> iassumption
  iintro %u3 ⟨Hx, HF, Hv, HO⟩
  iapply (run_then (rows_init m c))
  isplitl [HF HS]; · isplitl [HF] <;> iassumption
  iintro %u4 ⟨HF, HS⟩
  -- the wait for the neighbours
  iapply (run_then (run_barWait m K c))
  isplitl [HO HaB HcB]
  · isplitr; · iexact HR
    isplitl [HO]; · iexact HO
    isplitl [HaB] <;> iassumption
  iintro %u5 ⟨HO, HzB, HC⟩
  unfold barPay
  ihave HC := (Entails.of_eq (by_step fun p => anyCom p (nxt c))) $$ HC
  icases HC with ⟨HC0, HC1, HC2⟩
  -- the first copies
  iapply (run_then (rows_send m K c (dstOf c 0) (dstOf_eq c 0)))
  isplitl [HO HS Hr0 HC0]
  · isplitl [HO]
    · isplitr; · iexact HR
      iexact HO
    rw [bigSep_sep', bigSep_sep']
    isplitl [HS]; · iexact HS
    isplitl [Hr0] <;> iassumption
  iintro %u6 ⟨⟨-, HO⟩, Hfl0⟩
  -- the ring's two middle steps
  iapply (run_then (run_copy m K c 1 4 _ _ (off1_eq c)))
  isplitl [HO Hx HF Hv]
  · isplitr; · iexact HR
    isplitl [Hx]; · iexact Hx
    isplitl [HF]; · iexists (stg m 0 c); iexact HF
    isplitl [Hv] <;> iassumption
  iintro %u7 ⟨Hx, HF, Hv, HO⟩
  iapply (run_then (rows_iter0 m K c (dstOf c 1) (dstOf_eq c 1)))
  isplitl [HO HF Hfl0 Hr1 HC1]
  · isplitl [HO HF]
    · isplitr; · iexact HR
      isplitl [HO] <;> iassumption
    rw [bigSep_sep', bigSep_sep']
    isplitl [Hfl0]; · iexact Hfl0
    isplitl [Hr1] <;> iassumption
  iintro %u8 ⟨⟨-, HO, HF⟩, H⟩
  ihave H := (Entails.of_eq (bigSep_sep' _ _ _)) $$ H
  icases H with ⟨Hl0, Hfl1⟩
  iapply (run_then (run_copy m K c 2 8 _ _ (off2_eq c)))
  isplitl [HO Hx HF Hv]
  · isplitr; · iexact HR
    isplitl [Hx]; · iexact Hx
    isplitl [HF]; · iexists (stg m 1 c); iexact HF
    isplitl [Hv] <;> iassumption
  iintro %u9 ⟨Hx, HF, Hv, HO⟩
  iapply (run_then (rows_iter1 m K c (dstOf c 2) (dstOf_eq c 2)))
  isplitl [HO HF Hfl1 Hr2 HC2]
  · isplitl [HO HF]
    · isplitr; · iexact HR
      isplitl [HO] <;> iassumption
    rw [bigSep_sep', bigSep_sep']
    isplitl [Hfl1]; · iexact Hfl1
    isplitl [Hr2] <;> iassumption
  iintro %u10 ⟨⟨-, HO, HF⟩, H⟩
  ihave H := (Entails.of_eq (bigSep_sep' _ _ _)) $$ H
  icases H with ⟨Hl1, Hfl2⟩
  -- the last
  iapply (run_then (run_copy m K c 3 12 _ _ (off3_eq c)))
  isplitl [HO Hx HF Hv]
  · isplitr; · iexact HR
    isplitl [Hx]; · iexact Hx
    isplitl [HF]; · iexists (stg m 2 c); iexact HF
    isplitl [Hv] <;> iassumption
  iintro %u11 ⟨Hx, HF, Hv, HO⟩
  iapply (run_last (rows_last m K c))
  isplitl [HO HF Hfl2 Hout]
  · isplitl [HO HF]
    · isplitr; · iexact HR
      isplitl [HO] <;> iassumption
    rw [bigSep_sep']
    isplitl [Hfl2] <;> iassumption
  iintro %u12 ⟨⟨-, HO, HF⟩, H⟩
  ihave H := (Entails.of_eq (bigSep_sep' _ _ _)) $$ H
  icases H with ⟨Hl2, H⟩
  ihave H := (Entails.of_eq (bigSep_sep' _ _ _)) $$ H
  icases H with ⟨HS, Hout⟩
  ihave Hl := ((Entails.of_eq (by_step fun p => landed m p c).symm).trans (landed_split m c)) $$ [Hl0 Hl1 Hl2]
  · isplitl [Hl0]; · iexact Hl0
    isplitl [Hl1] <;> iassumption
  icases Hl with ⟨Hz, HC⟩
  unfold bodyPost Φ₁ zeros
  isplitr [HO Hout]
  · isplitl [Hx]; · iexact Hx
    isplitl [HF]; · iexists (stg m 3 c); unfold fPts; iexact HF
    isplitl [HS]; · iapply (join_snd c); iexact HS
    isplitl [HC]; · iapply (join_com m c); iexact HC
    isplitl [HzB]; · iexact HzB
    isplitl [Hv] <;> iassumption
  isplitl [HO]; · unfold ow; rw [owed_done]; iexact HO
  iapply (join_out m c); iexact Hout

end Cert.KernelIdeal.Proof

end
-- ==== Proof.KernelIdeal.Launch.lean ====
/-
  The launch: what the pipeline library asks of the call's one point, the cells and tokens minted at launch and dealt
  out so that each device holds the tokens of the signals and copies it makes, and the run of the whole program.
-/
module

public import proofs.«01_k».proof.Proof.KernelIdeal.Body
public import Idealize.ShloMosaic.Lib.Pipeline.CollectiveSegs
public import Idealize.ShloMosaic.Lib.Pipeline.Value

@[expose] public section

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Tiles

variable {F : FTy → Type} [FloatOps F]

local notation "𝕄" => MT nD τ sig Unit (Elt F) ℕ UU ℕ

variable (m : (ℓ : Loc nD τ sig) → Buf (Elt F) ℓ) (ρ : Dev nD → PrngReg)

/-! ## The call's one point -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outVal m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_out (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄)
      = (((c : Thread nD τ).loc cc0_stg0_0) ↦{fullShare} X) := owns_whole (c : Thread nD τ) cc0_stg0_0 fullShare X

/-- What the call's point starts from and ends with, over the result's staging buffer itself. -/
def pointPre (c : Dev nD) : sProp 𝕄 :=
  iprop(Φ₀ m c ∗ (dats m ρ 0 c).owesAt () t0_0.castSucc
    ∗ ∃ d, ((c : Thread nD τ).loc cc0_stg0_0) ↦{fullShare} (dats m ρ 0 c).before (0 : Fin 1) t0_0 d)
def pointPost (c : Dev nD) : sProp 𝕄 :=
  iprop(Φ₁ m c ∗ (dats m ρ 0 c).owesAt () t0_0.succ ∗ (((c : Thread nD τ).loc cc0_stg0_0) ↦{fullShare} outVal m c))

theorem run_point (c : Dev nD) : pointPre m ρ c ⊢ run c (Prog.lift .deviceId >>= fun d => bodyP (F := F) d) fun _ => pointPost m ρ c := by
  unfold pointPre pointPost Φ₀ start Dat.owesAt Pipeline.owesWithin run
  rw [show (dats m ρ 0 c).owed t0_0.castSucc = O₀ c from rfl, show (dats m ρ 0 c).owed t0_0.succ = 0 from rfl]
  simp only [Prog.lift, Prog.bind_op, Prog.bind_ret, wp_deviceId]
  iintro ⟨⟨⟨⟨%K, HR⟩, Hh⟩, HF, HS, HC⟩, ⟨%W, -, HO⟩, ⟨%d, Hout⟩⟩
  iapply (wp_wand_r frame (wpE (defs₀ (F := F)) 𝒱₀ (c : Thread nD τ) none) Set.univ)
  isplitl
  · iapply (run_body m K c)
    unfold bodyPre owStart
    isplitl [HR]; · iexact HR
    isplitl [Hh]; · iexact Hh
    isplitl [HF]; · iexact HF
    isplitl [HS]; · iexact HS
    isplitl [HC]; · iexact HC
    isplitl [HO]; · iexists W; iexact HO
    iexists _; iexact Hout
  iintro %u H
  unfold bodyPost
  icases H with ⟨H1, ⟨%W', HO⟩, Hout⟩
  isplitl [H1]; · iexact H1
  isplitl [HO]
  · iexists W'; isplitr
    · ipureintro; exact fun _ _ => Or.inl trivial
    iexact HO
  iexact Hout

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  show iprop(Φ₀ m c ∗ (dats m ρ 0 c).owesAt () t0_0.castSucc
      ∗ ∃ d, owns (c : Thread nD τ) (Memref.whole cc0_stg0_0) fullShare ((dats m ρ 0 c).before (0 : Fin 1) t0_0 d))
    ⊢ wp frame (wpE (defs₀ (F := F)) 𝒱₀ (c : Thread nD τ) none) Set.univ
        (cc0_body (F := F) (Memref.whole main_arg0) (Memref.isWhole_whole _) (Memref.whole cc0_stg0_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5)
        fun _ => iprop(Φ₁ m c ∗ (dats m ρ 0 c).owesAt () t0_0.succ ∗ owns (c : Thread nD τ) (Memref.whole cc0_stg0_0) fullShare (outVal m c))
  simp only [owns_out]
  rw [body_eq]
  exact run_point m ρ c

/-! ## Cells and tokens at launch -/

/-- The kernel's own semaphores: the local copies', the send and the receive semaphores. -/
abbrev osem : Unit ⊕ Blk ⊕ Blk → SemLoc sig
  | .inl _ => .dma cpyS
  | .inr (.inl p) => .dma (sndS p.1 p.2)
  | .inr (.inr p) => .dma (rcvS p.1 p.2)

theorem ownSemFacts : Pipeline.OwnSemFacts cfg0.spec osem := by decide +kernel

theorem share_eq (c : Dev nD) (w : Fin cfg0.W) : (dats m ρ 0 c).share w = fullShare := by unfold Dat.share; split <;> rfl

omit [FloatOps F] in
/-- A device's cells kind by kind. -/
theorem by_kind (X : Unit ⊕ Blk ⊕ Blk → sProp 𝕄) : bigSep Finset.univ X
    = iprop(X (.inl ()) ∗ (bigSep Finset.univ fun p : Blk => X (.inr (.inl p))) ∗ bigSep Finset.univ fun p : Blk => X (.inr (.inr p))) := by
  rw [bigSep_univ_sum, bigSep_univ_sum, bigSep_univ_eq_bigSepL [()] (by decide) (by decide), bigSepL_singleton]
  rfl

def ringCells : Finset (GSem nD τ sig) := Finset.univ.map ⟨kcell, kcell_injective⟩

/-- The tokens of device `c`'s own cells: `false` of each, and its barrier's `true`. -/
abbrev tokOf (cj : Dev nD × (CI ⊕ Unit)) : GSem nD τ sig × ℕ × Bool := match cj.2 with
  | .inl k => (kcell (cj.1, k), 0, false)
  | .inr _ => (barCell cj.1, 0, true)
theorem tokOf_injective : Function.Injective tokOf := by
  rintro ⟨c, k | u⟩ ⟨c', k' | u'⟩ h
  · have h' : (c, k) = (c', k') := kcell_injective (congrArg Prod.fst h)
    rw [Prod.mk.injEq] at h'; rw [h'.1, h'.2]
  · exact absurd (congrArg (fun x : GSem nD τ sig × ℕ × Bool => x.2.2) h) Bool.false_ne_true
  · exact absurd (congrArg (fun x : GSem nD τ sig × ℕ × Bool => x.2.2) h) Bool.false_ne_true.symm
  · have h' : c = c' := congrArg (fun x : GSem nD τ sig × ℕ × Bool => x.1.1.1) h
    rw [h']
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of a device's own cells, and those of the signals and copies it makes. -/
def toks (c : Dev nD) : sProp 𝕄 :=
  iprop(dutyTok ER (barCell c) 0 true ∗ dutyTok ER (barCell c) 0 false
    ∗ (bigSep Finset.univ fun p : Blk => dutyTok ER (sndCell p c) 0 false) ∗ bigSep Finset.univ fun p : Blk => dutyTok ER (rcvCell p c) 0 false)
def payToks (c : Dev nD) : sProp 𝕄 :=
  iprop(dutyTok ER (barCell (prv c)) 0 true ∗ dutyTok ER (barCell (nxt c)) 0 false
    ∗ (bigSep Finset.univ fun p : Blk => dutyTok ER (sndCell p c) 0 false) ∗ bigSep Finset.univ fun p : Blk => dutyTok ER (rcvCell p (nxt c)) 0 false)

/-- What the launch deals device `c`, -/
def G (c : Dev nD) : sProp 𝕄 :=
  iprop((bigSep Finset.univ fun k : CI => roundState ER (sched m) (kcell (c, k)) 0)
    ∗ (bigSep Finset.univ fun k : CI => atPos ER (kcell (c, k)) 0 ∅ 0) ∗ (bigSep Finset.univ fun k : CI => reached ER (kcell (c, k)) 0) ∗ toks c)
/-- what of it stays its own, -/
def linear (c : Dev nD) : sProp 𝕄 := iprop((bigSep Finset.univ fun k : CI => atPos ER (kcell (c, k)) 0 ∅ 0) ∗ payToks c ∗ semVal (cpyCell c) 0)
/-- what is known of all cells once their invariants are made, -/
def known (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)
/-- and what each device has then. -/
def G' (c : Dev nD) : sProp 𝕄 := iprop(∃ K, known m K ∗ linear c)

instance known_persistent (K : Dev nD × CI → ℕ) : BI.Persistent (known m K) := by unfold known; infer_instance

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_eq_bigSepL [()] (by decide) (by decide), bigSepL_singleton, by_kind]
    unfold toks
    show iprop((dutyTok ER (barCell c) 0 false ∗ (bigSep Finset.univ fun p : Blk => dutyTok ER (sndCell p c) 0 false)
      ∗ bigSep Finset.univ fun p : Blk => dutyTok ER (rcvCell p c) 0 false) ∗ dutyTok ER (barCell c) 0 true) = _
    exact BI.equiv_iff.mp ⟨Idealize.SL.BI.sep_comm, Idealize.SL.BI.sep_comm⟩
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (cpyCell c) 0 ∗ (bigSep Finset.univ fun p : Blk => semVal (sndCell p c) 0) ∗ bigSep Finset.univ fun p : Blk => semVal (rcvCell p c) 0) := by
  unfold Pipeline.ownSems0; rw [by_kind]
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells at zero become invariants; the local copies' semaphore stays as it is. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0)
          ∗ toks c ∗ semVal (cpyCell c) 0) := by
  rw [ownSems0_eq, unscopedSems0_eq]
  unfold G
  iintro ⟨⟨Hc, HS, HV⟩, HB, Hst, Hat, Hr, Htok⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [HS HV HB Hst] with Hinv
  · isplitr [Hst]
    · iapply (Entails.of_eq (by_kind (F := F) fun k => semVal (kcell (c, k)) 0).symm)
      isplitl [HB]; · iexact HB
      isplitl [HS]; · iexact HS
      iexact HV
    · iexact Hst
  imodintro
  isplitl [Hinv]; · iexact Hinv
  isplitl [Hat]; · iexact Hat
  isplitl [Hr]; · iexact Hr
  isplitl [Htok]; · iexact Htok
  iexact Hc

omit [FloatOps F] in
/-- Every token goes to the device that pays it: a barrier's `true` to the one after, its `false` and the receive cells' to the one before. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (bigSep Finset.univ fun p : Blk => dutyTok ER (rcvCell p c) 0 false : sProp 𝕄))]
  exact .rfl

omit [FloatOps F] in
theorem deal {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0)
          ∗ toks c ∗ semVal (cpyCell c) 0) : sProp 𝕄)
      ⊢ bigSep Finset.univ (G' m) := by
  rw [bigSep_sep', bigSep_sep', bigSep_sep', bigSep_sep', ← bigSep_univ_prod (fun ck : Dev nD × CI => iprop(∃ κ : ℕ, cellInv ER (sched m) κ (kcell ck))),
    ← bigSep_univ_prod (fun ck : Dev nD × CI => (reached ER (kcell ck) 0 : sProp 𝕄))]
  iintro ⟨HI, Hat, #HR, Htok, Hc⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (deal (F := F) (R := known m K) (Φ := linear) fun c => by
    unfold G'; iintro ⟨H1, H2⟩; iexists K
    isplitl [H1]; · iexact H1
    iexact H2)
  isplitr
  · unfold known; isplitl; · iexact HI
    iexact HR
  · unfold linear; rw [bigSep_sep', bigSep_sep']
    isplitl [Hat]; · iexact Hat
    isplitl [Htk]; · iexact Htk
    iexact Hc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem kcell_eq_iff {d c : Dev nD} {k k' : CI} : kcell (d, k) = kcell (c, k') ↔ d = c ∧ k = k' :=
  kcell_injective.eq_iff.trans (by rw [Prod.mk.injEq])

theorem eq_nxt_iff {c d : Dev nD} : c = nxt d ↔ d = prv c :=
  ⟨fun h => by rw [h, prv_nxt], fun h => by rw [h, nxt_prv]⟩
theorem eq_prv_iff {c d : Dev nD} : c = prv d ↔ d = nxt c :=
  ⟨fun h => by rw [h, nxt_prv], fun h => by rw [h, prv_nxt]⟩

theorem tally_kcell (d c : Dev nD) (k k' : CI) (n : ℕ) :
    (tallyAt (kcell (d, k)) () n : CellTallies nD τ sig Unit) (kcell (c, k')) () = if c = d ∧ k' = k then n else 0 := by
  rw [tallyAt_apply]
  exact if_congr ⟨fun h => kcell_eq_iff.mp h.1, fun h => ⟨kcell_eq_iff.mpr h, rfl⟩⟩ rfl rfl

theorem owedFrom_kcell (d c : Dev nD) (k : CI) :
    owedFrom d 0 (kcell (c, k)) () = ∑ p : Blk, if c = nxt d ∧ k = .inr (.inr p) then N else 0 := by
  unfold owedFrom
  rw [Finset.sum_apply, Finsupp.finset_sum_apply, Finset.filter_true_of_mem fun p _ => Nat.zero_le _]
  exact Finset.sum_congr rfl fun p _ => tally_kcell (nxt d) c (.inr (.inr p)) k N

/-- What device `d` owes device `c`'s barrier, and its receive cells. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, show owedFrom d 0 (barCell c) () = 0 from
    (owedFrom_kcell d c (.inl ())).trans (Finset.sum_eq_zero fun p _ => if_neg fun h => by cases h.2), Nat.zero_add]
  exact congrArg₂ (· + ·)
    ((tally_kcell (nxt d) c (.inl ()) (.inl ()) 1).trans (if_congr ((and_iff_left rfl).trans eq_nxt_iff) rfl rfl))
    ((tally_kcell (prv d) c (.inl ()) (.inl ()) 1).trans (if_congr ((and_iff_left rfl).trans eq_prv_iff) rfl rfl))

theorem owed_rcv (d c : Dev nD) (p : Blk) : O₀ d (rcvCell p c) () = if d = prv c then N else 0 := by
  unfold O₀ O₁
  rw [Pi.add_apply, Finsupp.add_apply, Pi.add_apply, Finsupp.add_apply,
    show (tallyAt (barCell (nxt d)) () 1 : CellTallies nD τ sig Unit) (rcvCell p c) () = 0 from
      (tally_kcell (nxt d) c (.inl ()) (.inr (.inr p)) 1).trans (if_neg fun h => by cases h.2),
    show (tallyAt (barCell (prv d)) () 1 : CellTallies nD τ sig Unit) (rcvCell p c) () = 0 from
      (tally_kcell (prv d) c (.inl ()) (.inr (.inr p)) 1).trans (if_neg fun h => by cases h.2), Nat.add_zero]
  refine (owedFrom_kcell d c (.inr (.inr p))).trans ?_
  rw [Finset.sum_eq_single p (fun q _ hq => if_neg fun h => hq (Sum.inr.inj (Sum.inr.inj h.2)).symm) (fun h => absurd (Finset.mem_univ p) h)]
  exact if_congr ((and_iff_left rfl).trans eq_nxt_iff) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (p : Blk) :
    tallyOn (rcvCell p c) (launchCredit (Pipeline.owing O₀) 0 (rcvCell p c)) = (tallyAt (rcvCell p c) () N : CellTallies nD τ sig Unit) := by
  unfold tallyAt; refine congrArg _ (Finsupp.ext fun u => ?_); cases u
  rw [Pipeline.launchCredit_owing, Finsupp.single_eq_same, Finset.sum_congr rfl fun d _ => owed_rcv d c p,
    Finset.sum_ite_eq' Finset.univ (prv c) fun _ => N, if_pos (Finset.mem_univ _)]

omit [FloatOps F] in
theorem creds (c : Dev nD) : (Pipeline.launchCred O₀ c : sProp 𝕄)
    ⊢ iprop(cred (tallyAt (barCell c) () 2) ∗ bigSep Finset.univ fun p : Blk => cred (tallyAt (rcvCell p c) () N)) := by
  unfold Pipeline.launchCred
  refine (bigSep_subset (Finset.subset_univ (Finset.univ.image csem))).trans ?_
  rw [bigSep_image_of_injOn csem_injective.injOn, by_kind]
  show iprop(cred (tallyOn (barCell c) (launchCredit (Pipeline.owing O₀) 0 (barCell c))) ∗ _
    ∗ bigSep Finset.univ fun p : Blk => cred (tallyOn (rcvCell p c) (launchCredit (Pipeline.owing O₀) 0 (rcvCell p c)))) ⊢ _
  rw [launch_bar, bigSep_congr fun p _ => congrArg cred (launch_rcv c p)]
  iintro ⟨H1, -, H2⟩
  isplitl [H1] <;> iassumption

/-! ## Into the call and out of it -/

theorem hand_intro (c : Dev nD) :
    iprop(linear c ∗ cred (tallyAt (barCell c) () 2) ∗ (bigSep Finset.univ fun p : Blk => cred (tallyAt (rcvCell p c) () N)) ∗ argPts m c) ⊢ hand m c := by
  unfold linear payToks hand ready
  rw [bigSep_sep', bigSep_sep', bigSep_sep', bigSep_sep', by_kind]
  iintro ⟨⟨⟨HaB, HaS, HaV⟩, ⟨HtP, HtN, HtS, HtV⟩, Hv⟩, HcB, HcV, Hx⟩
  isplitl [HaB]; · iexact HaB
  isplitl [HtP]; · iexact HtP
  isplitl [HtN]; · iexact HtN
  isplitl [HaS HaV HtS HtV HcV]
  · isplitl [HaS]; · iexact HaS
    isplitl [HaV]; · iexact HaV
    isplitl [HtS]; · iexact HtS
    isplitl [HtV]; · iexact HtV
    iexact HcV
  isplitl [HcB]; · iexact HcB
  isplitl [Hv]; · iexact Hv
  iexact Hx

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' known start records
  iintro ⟨Hx, Hlev, Hcr, -, ⟨%K, ⟨HI, HR⟩, Hlin⟩⟩
  ihave Hc := (creds (F := F) c) $$ Hcr
  icases Hc with ⟨H1, HN⟩
  imodintro
  isplitl
  · isplitl [HI HR Hlev]
    · iexists K
      isplitl [HI]; · iexact HI
      isplitl [HR]; · iexact HR
      iexact Hlev
    iapply (hand_intro m c)
    isplitl [Hlin]; · iexact Hlin
    isplitl [H1]; · iexact H1
    isplitl [HN]; · iexact HN
    unfold argPts; iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, HF, HS, HC⟩
  isplitl [Hs]; · iexact Hs
  isplitl [HF]; · iexact HF
  isplitl [HS]; · iexact HS
  iexact HC

theorem phi1_exit (c : Dev nD) :
    (dats m ρ 0 c).Φ (Fin.last cfg0.N) ⊢ iprop((unscopedSems0 c ∗ argPts m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros
  rw [bigSep_sep']
  iintro ⟨Hx, HF, HS, HC, HzB, HzC, HzS, HzV⟩
  isplitl [HzB Hx]
  · isplitl [HzB] <;> iassumption
  isplitl [HzC HzS HzV]
  · isplitl [HzC]; · iexact HzC
    isplitl [HzS]; · iexact HzS
    iexact HzV
  isplitl [HF]; · iexact HF
  isplitl [HS]; · iexact HS
  iexact HC

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_launch c _ (by fin_cases w <;> fin_cases s <;> decide)
    · show (levAts L lv : sProp 𝕄) ⊢ MayWait (c : Thread nD τ) _ () 0
      rw [MayWait_zero]; iintro -; iempintro

/-- At the end a device's barrier reads zero and its argument what it read at launch. -/
def endOf (c : Dev nD) (s : MemSt nD τ sig (Elt F)) : Prop :=
  (∀ sm : SemLoc sig, sm.isScoped .tc = false → s.sem ((c.tc : Thread nD τ), sm) = 0) ∧ s.mem ((c : Thread nD τ).loc main_arg0) = m ((c : Thread nD τ).loc main_arg0)

theorem read_end (c : Dev nD) (s' : Phys nD τ sig (Elt F)) :
    iprop((unscopedSems0 c ∗ argPts m c) ∗ emp ∗ SI s') ⊢ (|={Set.univ}=> iprop(⌜endOf m c s'.mem⌝ ∗ SI s') : sProp 𝕄) := by
  unfold argPts
  iintro ⟨⟨Hu, Hx⟩, -, HSI⟩
  icombine HSI Hx gives %hx
  ihave H := (Pipeline.unscopedSems0_read (X := unscopedSems0 c) (c := c) fupd_intro s') $$ [Hu HSI]
  · isplitl [Hu] <;> iassumption
  imod H with ⟨%hz, HSI⟩
  imodintro
  isplitr; · ipureintro; exact ⟨hz, Buf.eq_of_forall_mem_univ hx⟩
  iexact HSI

/-! ## The run -/

omit [FloatOps F] in
theorem own_ring (x : UB) (y : Counters) : (BI.own (embR (x, y)) : sProp 𝕄) ⊢ BI.own (ER x) := by
  unfold ER
  iintro H
  ihave H := (own_pair_emb embR _ _) $$ H
  icases H with ⟨H, -⟩
  iexact H

/-- The one point's block is the whole result array. -/
theorem blk_emb (j : S4096x1024.Idx) : ((cfg0.win (0 : Fin 1)).blk t0_0).view.emb (show (win0_0.xblock (cfg0.grid.coords t0_0)).Idx from j) = j := by
  funext a
  fin_cases a
  · refine Fin.ext ((Rect.emb_apply _ _ _).trans ?_)
    show 0 + 1 * (j 0).val = (j 0).val; omega
  · refine Fin.ext ((Rect.emb_apply _ _ _).trans ?_)
    show 0 + 1 * (j 1).val = (j 1).val; omega

theorem out_block (c : Dev nD) : (dats m ρ 0 c).arrAt (0 : Fin 1) cfg0.N = outVal m c :=
  (dats m ρ 0 c).arrAt_eq_of_cover (0 : Fin 1) (outVal m c)
    (fun t _ => by
      rw [fin_N0 t]
      funext j
      exact congrArg (outVal m c) (blk_emb j).symm)
    (fun i => ⟨t0_0, flush0_0 _, by
      rw [← blk_emb i]; exact View.emb_mem_set _ _⟩)

set_option maxRecDepth 8000 in
/-- From any memory with zero counters, every weakly fair execution ends, each device's result array holding `outVal`, its
    argument what it held, and every semaphore counter at zero. -/
theorem run_main : θ_run defs (onTc (τ := τ) (main (F := F))) (s₀ m ρ) (fun r =>
    (∀ c : Dev nD, r.2.mem ((c : Thread nD τ).loc main_v1) = outVal m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_ring (F := F) _ _) $$ HX
      imod (fund_ring m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m ρ) (hout := phi1_exit m ρ)
    (QY := endOf m) (hY := read_end m)
    (hQ := fun _ h hs => ⟨fun c => ⟨((h c).1 (0 : Fin 1)).trans (out_block m ρ c), (h c).2.2.2⟩, sem_eq_zero hs fun c => (h c).2.2.1⟩)

end Cert.KernelIdeal.Proof

end
-- ==== Proof.KernelIdeal.Value.lean ====
/-
  The result's value with exact arithmetic: on each device, its column chunk of the sum of the argument's four
  matrices. The four terms are added in the order of the ring; the reference adds them in theirs.
-/
module

public import proofs.«01_k».proof.Proof.KernelIdeal.Launch
public import proofs.«01_k».proof.Proof.Gen.ReferenceIdeal.Run
public import Idealize.ShloMosaic.Lib.IdealHost
public import Idealize.ShloMosaic.Lib.Layout
public import Idealize.ShloMosaic.Lib.Pointwise.Reduce
public import Idealize.ShloMosaic.Lib.Pointwise.Tactic

@[expose] public section

noncomputable section

namespace Cert.KernelIdeal.Proof

open Cert.KernelIdeal Cert.KernelIdeal.Gen
open Idealize.ShloMosaic Idealize.ShloMosaic.TcCoe Idealize.SL.Sem
open Cert.Tiles

/-! ## Reading the argument -/

theorem chunk_lt (q : Fin 4) (l : Fin 1024) : 1024 * q.val + l.val < 4096 := by omega

/-- The chunk buffer's contents, element by element, in terms of the device's argument. -/
theorem stg_apply {F : FTy → Type} [FloatOps F] (m : (ℓ : Loc nD τ sig) → Buf (Elt F) ℓ) (k : ℕ) (c : Dev nD) (i : S4096x1024.Idx) :
    stg m k c i = m ((c : Thread nD τ).loc main_arg0)
      (ix3 (0 : Fin 1) (i 0 : Fin 4096) ⟨1024 * (chunkOf c k).val + (i 1 : Fin 1024).val, chunk_lt (chunkOf c k) (i 1)⟩) := by
  have h : stg m k c i = m ((c : Thread nD τ).loc main_arg0)
      ((Rect.unit (s := S1x4096x4096) ![0, 0, 1024 * (chunkOf c k).val] S1x4096x1024.size (inb_chunk (chunkOf c k))).emb
        (Shape.reshapeEquiv squeezes_S1x4096x1024_S4096x1024.numel_eq i)) := rfl
  rw [h, Shape.reshapeEquiv_cons_one]
  refine congrArg _ (funext fun a => Fin.ext ?_)
  rw [Rect.emb_apply]
  match a with
  | ⟨0, _⟩ => show 0 + 1 * 0 = 0; omega
  | ⟨1, _⟩ => show 0 + 1 * (i 0).val = (i 0).val; omega
  | ⟨2, _⟩ => show 1024 * (chunkOf c k).val + 1 * (i 1).val = 1024 * (chunkOf c k).val + (i 1).val; omega

/-! ## The order of the ring -/

/-- A device's place in its ring. -/
def place (c : Dev nD) : Fin 4 := ⟨c.val % 4, Nat.mod_lt _ (by decide)⟩

theorem place_prv (c : Dev nD) : place (prv c) = place c + 3 := by revert c; decide
theorem chunk3 (c : Dev nD) : chunkOf c 3 = place c := by revert c; decide
theorem chunk2 (c : Dev nD) : chunkOf (prv c) 2 = place c := by revert c; decide
theorem chunk1 (c : Dev nD) : chunkOf (prv (prv c)) 1 = place c := by revert c; decide
theorem chunk0 (c : Dev nD) : chunkOf (prv (prv (prv c))) 0 = place c := by revert c; decide

/-- The four terms in the ring's order are the four terms in order. -/
theorem ring_sum (f : Fin 4 → EReal) (z : Fin 4) :
    f z + (f (z + 3) + (f (z + 3 + 3) + f (z + 3 + 3 + 3))) = ∑ k, f k := by
  rw [Fin.sum_univ_four]
  match z with
  | 0 => show f 0 + (f 3 + (f 2 + f 1)) = _; ac_rfl
  | 1 => show f 1 + (f 0 + (f 3 + f 2)) = _; ac_rfl
  | 2 => show f 2 + (f 1 + (f 0 + f 3)) = _; ac_rfl
  | 3 => show f 3 + (f 2 + (f 1 + f 0)) = _; ac_rfl

/-- The third axis of the mesh is the place in the ring. -/
theorem mesh_place (n : ℕ) : Layout.meshLin [2, 4, 4] n [2] = n % 4 := by
  simp [Layout.meshLin, Layout.meshCoord, Layout.cutSize]

/-! ## The result -/

section Value

variable (m : (ℓ : Loc nD τ sig) → Buf (Elt Ideal) ℓ) (w : (⟨3, ![4, 4096, 4096]⟩ : Shape).Idx → EReal)
variable (hm : ∀ c : Dev nD, m ((c : Thread nD τ).loc main_arg0)
  = Layout.blockN ⟨3, ![1, 4096, 4096]⟩ ⟨3, ![4, 4096, 4096]⟩ (Layout.meshBlock [2, 4, 4] ![[2], [], []] c) w)
include hm

/-- A device's argument is its place's matrix of the whole array. -/
theorem arg_apply (c : Dev nD) (r l : Fin 4096) :
    m ((c : Thread nD τ).loc main_arg0) (ix3 (0 : Fin 1) r l) = w (ix3 (place c) r l) := by
  rw [hm c, Layout.blockN_apply]
  refine congrArg w (funext fun a => Fin.ext ?_)
  rw [Layout.TilesN.idx_val]
  match a with
  | ⟨0, _⟩ =>
    show Layout.meshLin [2, 4, 4] c.val [2] * 1 + 0 = c.val % 4
    rw [mesh_place]; omega
  | ⟨1, _⟩ => show 0 * 4096 + r.val = r.val; omega
  | ⟨2, _⟩ => show 0 * 4096 + l.val = l.val; omega

theorem stg_whole (k : ℕ) (c : Dev nD) (q : Fin 4) (hq : chunkOf c k = q) (i : S4096x1024.Idx) :
    stg m k c i = w (ix3 (place c) (i 0 : Fin 4096) ⟨1024 * q.val + (i 1 : Fin 1024).val, chunk_lt q (i 1)⟩) := by
  subst hq
  exact (stg_apply m k c i).trans (arg_apply m w hm c _ _)

/-- An element of the result is the sum, over the four matrices, of the element at its row and its column in the
    device's chunk. -/
theorem outVal_apply (c : Dev nD) (i : S4096x1024.Idx) :
    outVal m c i = ∑ k : Fin 4, w (ix3 k (i 0 : Fin 4096) ⟨1024 * (place c).val + (i 1 : Fin 1024).val, chunk_lt (place c) (i 1)⟩) := by
  obtain ⟨b, j, rfl⟩ := row_tiling.cover i
  have h : outVal m c ((rowR b).emb j)
      = (stg m 3 c ((rowR b).emb j) : EReal) + (stg m 2 (prv c) ((rowR b).emb j)
        + (stg m 1 (prv (prv c)) ((rowR b).emb j) + stg m 0 (prv (prv (prv c))) ((rowR b).emb j))) :=
    glue_emb row_tiling _ b j
  rw [h, stg_whole m w hm 3 c _ (chunk3 c), stg_whole m w hm 2 _ _ (chunk2 c), stg_whole m w hm 1 _ _ (chunk1 c),
    stg_whole m w hm 0 _ _ (chunk0 c), place_prv (prv (prv c)), place_prv (prv c), place_prv c]
  exact ring_sum (fun k => w (ix3 k _ _)) (place c)

end Value

/-! ## The reference's result -/

/-- What the reference computes of the whole array. -/
abbrev refVal (w : FVec Ideal Cert.ReferenceIdeal.S4x4096x4096 .f32) : FVec Ideal Cert.ReferenceIdeal.S4096x4096 .bf16 :=
  truncf .bf16 (Host.reduceAdd w (constant Cert.ReferenceIdeal.S_ .f32 0x00000000#32)
    Cert.ReferenceIdeal.Gen.facts.reducesTo_S4x4096x4096_S4096x4096_d0 Cert.ReferenceIdeal.Gen.facts.h_S_)
    Cert.ReferenceIdeal.Gen.facts.bitsLt_bf16_f32

theorem refVal_apply (w : FVec Ideal Cert.ReferenceIdeal.S4x4096x4096 .f32) (i : Cert.ReferenceIdeal.S4096x4096.Idx) :
    refVal w i = ∑ k : Fin 4, w (ix3 k (i 0 : Fin 4096) (i 1 : Fin 4096)) := by
  have h : refVal w i = Ideal.hostReduceAdd Cert.ReferenceIdeal.Gen.facts.reducesTo_S4x4096x4096_S4096x4096_d0 w
      (Ideal.ofBits .f32 0x00000000#32) i := rfl
  rw [h, Ideal.hostReduceAdd_r3_a0, Ideal.ofBits_zero_f32, zero_add]
  rfl

set_option backward.proofsInPublic true in
/-- Each device's result is its block of the reference's. -/
theorem outVal_eq (m : (ℓ : Loc nD τ sig) → Buf (Elt Ideal) ℓ) (w : FVec Ideal Cert.ReferenceIdeal.S4x4096x4096 .f32)
    (hm : ∀ c : Dev nD, m ((c : Thread nD τ).loc main_arg0)
      = Layout.blockN ⟨3, ![1, 4096, 4096]⟩ ⟨3, ![4, 4096, 4096]⟩ (Layout.meshBlock [2, 4, 4] ![[2], [], []] c) w) (c : Dev nD) :
    outVal m c = Layout.blockN ⟨2, ![4096, 1024]⟩ ⟨2, ![4096, 4096]⟩ (Layout.meshBlock [2, 4, 4] ![[], [2]] c) (refVal w) := by
  funext i
  rw [Layout.blockN_apply, refVal_apply, outVal_apply m w hm]
  refine Finset.sum_congr rfl fun k _ => congrArg w (congrArg₂ (ix3 k) (Fin.ext ?_) (Fin.ext ?_))
  · rw [Layout.TilesN.idx_val]
    show (i 0).val = 0 * 4096 + (i 0).val
    omega
  · rw [Layout.TilesN.idx_val]
    show 1024 * (c.val % 4) + (i 1).val = Layout.meshLin [2, 4, 4] c.val [2] * 1024 + (i 1).val
    rw [mesh_place]
    omega

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- The kernel on 32 devices ends, faults nowhere, keeps its argument and leaves every counter at zero. -/
theorem quiet_kernel : quiescent_Kernel (hKernel := Cert.Kernel.Gen.facts) := fun m g _ =>
  (θ_run Cert.Kernel.defs _ _).mono (fun _ h => ⟨fun c => (h.1 c).2, h.2⟩) (Cert.Kernel.Proof.run_main m g)

/-- So does the kernel with exact arithmetic, -/
theorem quiet_ideal : quiescent_KernelIdeal (hKernelIdeal := Cert.KernelIdeal.Gen.facts) := fun m g _ =>
  (θ_run Cert.KernelIdeal.defs _ _).mono (fun _ h => ⟨fun c => (h.1 c).2, h.2⟩) (Cert.KernelIdeal.Proof.run_main m g)

/-- and so does the reference. -/
theorem quiet_reference : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- With exact arithmetic each device's result is its column block of the sum that the reference computes. -/
theorem same_value : algebraic_KernelIdeal_ReferenceIdeal (hKernelIdeal := Cert.KernelIdeal.Gen.facts)
    (hReferenceIdeal := Cert.ReferenceIdeal.Gen.facts) := fun m g m' g' _ hm =>
  ⟨Cert.KernelIdeal.Proof.refVal (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.KernelIdeal.Proof.outVal_eq m _ hm c), (h.1 c).2⟩) (Cert.KernelIdeal.Proof.run_main m g),
    (θ_run Cert.ReferenceIdeal.defs _ _).mono (fun _ h => h 0) (Cert.ReferenceIdeal.Value.run m' g')⟩

/-- The five claims together. -/
theorem claim : Cert.Claim := ⟨Cert.Kernel.Gen.facts, Cert.KernelIdeal.Gen.facts, Cert.ReferenceIdeal.Gen.facts,
  quiet_kernel, quiet_ideal, quiet_reference, trivial, same_value⟩

end Cert.Proof

end
